-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dy_is_bf16 [hPre_dy_is_bf16 : Cert.Pre_dy_is_bf16.Facts] (m : (ℓ : Loc Cert.KernelIdeal.nD Cert.KernelIdeal.τ Cert.KernelIdeal.sig) → Buf (Elt Ideal) ℓ) : Prop :=
  ∀ c : Dev Cert.KernelIdeal.nD,
    (Cert.Pre_dy_is_bf16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dy_is_bf16 [hPre_dy_is_bf16 : Cert.Pre_dy_is_bf16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dy_is_bf16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_dy_is_bf16 [hKernelIdeal : Cert.KernelIdeal.Facts] [hPre_dy_is_bf16 : Cert.Pre_dy_is_bf16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dy_is_bf16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_dy_is_bf16 [hReferenceIdeal : Cert.ReferenceIdeal.Facts] [hPre_dy_is_bf16 : Cert.Pre_dy_is_bf16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dy_is_bf16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_dy_is_bf16 [hKernelIdeal : Cert.KernelIdeal.Facts] [hReferenceIdeal : Cert.ReferenceIdeal.Facts] [hPre_dy_is_bf16 : Cert.Pre_dy_is_bf16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dy_is_bf16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_dy_is_bf16 : Cert.Pre_dy_is_bf16.Facts),
    quiescent_Kernel (hKernel := hKernel)
    ∧ quiescent_KernelIdeal (hKernelIdeal := hKernelIdeal)
    ∧ quiescent_KernelIdeal_pre_dy_is_bf16 (hKernelIdeal := hKernelIdeal) (hPre_dy_is_bf16 := hPre_dy_is_bf16)
    ∧ quiescent_ReferenceIdeal (hReferenceIdeal := hReferenceIdeal)
    ∧ quiescent_ReferenceIdeal_pre_dy_is_bf16 (hReferenceIdeal := hReferenceIdeal) (hPre_dy_is_bf16 := hPre_dy_is_bf16)
    ∧ preserves_Kernel_KernelIdeal
    ∧ algebraic_KernelIdeal_ReferenceIdeal_pre_dy_is_bf16 (hKernelIdeal := hKernelIdeal) (hReferenceIdeal := hReferenceIdeal) (hPre_dy_is_bf16 := hPre_dy_is_bf16)
-- ==== Pre_dy_is_bf16.lean ====
abbrev S8x3072x8192 : Shape := ⟨3, ![8, 3072, 8192]⟩
abbrev S2048x8192 : Shape := ⟨2, ![2048, 8192]⟩
abbrev S2048x64 : Shape := ⟨2, ![2048, 64]⟩
abbrev S_ : Shape := ⟨0, ![]⟩

class Facts : Prop where
  bcast_S_S8x3072x8192 : S_.BroadcastsInDim S8x3072x8192 (![] : Fin 0 → Fin S8x3072x8192.rank)

variable [Facts]

def fn {F : FTy → Type} [FloatOps F] (main_arg0 : FVec F S8x3072x8192 .bf16) (main_arg1 : FVec F S2048x8192 .fp8e4m3) (main_arg2 : FVec F S2048x64 .f32) : IVec S8x3072x8192 1 :=
  let main_v0 : FVec F S8x3072x8192 .bf16 := Host.absf main_arg0
  let main_cst : FVec F S_ .bf16 := constant S_ .bf16 0x7F7F#16
  let main_v1 : FVec F S8x3072x8192 .bf16 := broadcastInDim S8x3072x8192 ![] bcast_S_S8x3072x8192 main_cst
  let main_v2 : IVec S8x3072x8192 1 := cmpf .ole main_v0 main_v1
  let main_cst_0 : FVec F S_ .bf16 := constant S_ .bf16 0x7F80#16
  let main_v3 : FVec F S8x3072x8192 .bf16 := broadcastInDim S8x3072x8192 ![] bcast_S_S8x3072x8192 main_cst_0
  let main_v4 : IVec S8x3072x8192 1 := cmpf .oeq main_v0 main_v3
  let main_v5 : IVec S8x3072x8192 1 := ori main_v2 main_v4
  main_v5
-- ==== Kernel.lean ====
abbrev S8x3072x8192 : Shape := ⟨3, ![8, 3072, 8192]⟩
abbrev S2048x8192 : Shape := ⟨2, ![2048, 8192]⟩
abbrev S2048x64 : Shape := ⟨2, ![2048, 64]⟩
abbrev S24576x8192 : Shape := ⟨2, ![24576, 8192]⟩
abbrev S24576x2048 : Shape := ⟨2, ![24576, 2048]⟩
abbrev S24576x64 : Shape := ⟨2, ![24576, 64]⟩
abbrev S256x8192 : Shape := ⟨2, ![256, 8192]⟩
abbrev S256x2048 : Shape := ⟨2, ![256, 2048]⟩
abbrev S256x64 : Shape := ⟨2, ![256, 64]⟩
abbrev S128x8192 : Shape := ⟨2, ![128, 8192]⟩
abbrev S_ : Shape := ⟨0, ![]⟩
abbrev S128x1 : Shape := ⟨2, ![128, 1]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 7
  | .vmem => 12
  | .smem => 0
  | _ => 0

abbrev bufTy : (tb : Table) → Fin (tcTables nBuf tb) → BufTy
  | .hbm, ⟨0, _⟩ => ⟨S8x3072x8192, .bf16⟩
  | .hbm, ⟨1, _⟩ => ⟨S2048x8192, .fp8e4m3⟩
  | .hbm, ⟨2, _⟩ => ⟨S2048x64, .f32⟩
  | .hbm, ⟨3, _⟩ => ⟨S24576x8192, .bf16⟩
  | .hbm, ⟨4, _⟩ => ⟨S24576x2048, .bf16⟩
  | .hbm, ⟨5, _⟩ => ⟨S24576x8192, .fp8e4m3⟩
  | .hbm, ⟨6, _⟩ => ⟨S24576x64, .f32⟩
  | .local _ .vmem, ⟨0, _⟩ => ⟨S256x8192, .bf16⟩
  | .local _ .vmem, ⟨1, _⟩ => ⟨S256x8192, .bf16⟩
  | .local _ .vmem, ⟨2, _⟩ => ⟨S2048x64, .f32⟩
  | .local _ .vmem, ⟨3, _⟩ => ⟨S256x2048, .bf16⟩
  | .local _ .vmem, ⟨4, _⟩ => ⟨S256x2048, .bf16⟩
  | .local _ .vmem, ⟨5, _⟩ => ⟨S256x8192, .fp8e4m3⟩
  | .local _ .vmem, ⟨6, _⟩ => ⟨S256x8192, .fp8e4m3⟩
  | .local _ .vmem, ⟨7, _⟩ => ⟨S256x64, .f32⟩
  | .local _ .vmem, ⟨8, _⟩ => ⟨S256x64, .f32⟩
  | .local _ .vmem, ⟨9, _⟩ => ⟨S128x8192, .fp8e4m3⟩
  | .local _ .vmem, ⟨10, _⟩ => ⟨S2048x8192, .bf16⟩
  | .local _ .vmem, ⟨11, _⟩ => ⟨S256x8192, .bf16⟩
  | _, _ => ⟨S8x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![96], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_1224 : BitVec 32 := 0#32
  let c16_i32_1225 : BitVec 32 := 16#32
  let v3659 : BitVec 32 := Scalar.addi c0_i32_1224 c16_i32_1225
  let c1_i32_1226 : BitVec 32 := 1#32
  ⟨c0_i32_1224, v3659, c1_i32_1226⟩
def k0_mult1 (k0_t1 : Fin k0_t1_loop.trips) : BitVec 32 :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  v3662
def k0_off1 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let c0_i32_1230 : BitVec 32 := 0#32
  ![v3663.toNat, 0]
def k0_off2 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3666 : Index := Scalar.indexCast v3663
  let c0_1232 : Index := 0#32
  ![v3666.toNat, 0]
def k0_off3 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3673 : Index := Scalar.indexCast v3663
  let c0_1235 : Index := 0#32
  ![v3673.toNat, 0]
def k0_off4 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3677 : Index := Scalar.indexCast v3663
  let c1 : Index := 1#32
  ![v3677.toNat, 1]
def k0_off5 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3684 : Index := Scalar.indexCast v3663
  let c128_1238 : Index := 128#32
  ![v3684.toNat, 128]
def k0_off6 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3688 : Index := Scalar.indexCast v3663
  let c2 : Index := 2#32
  ![v3688.toNat, 2]
def k0_off7 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3695 : Index := Scalar.indexCast v3663
  let c256_1241 : Index := 256#32
  ![v3695.toNat, 256]
def k0_off8 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3699 : Index := Scalar.indexCast v3663
  let c3 : Index := 3#32
  ![v3699.toNat, 3]
def k0_off9 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3706 : Index := Scalar.indexCast v3663
  let c384_1244 : Index := 384#32
  ![v3706.toNat, 384]
def k0_off10 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3710 : Index := Scalar.indexCast v3663
  let c4 : Index := 4#32
  ![v3710.toNat, 4]
def k0_off11 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3717 : Index := Scalar.indexCast v3663
  let c512_1247 : Index := 512#32
  ![v3717.toNat, 512]
def k0_off12 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3721 : Index := Scalar.indexCast v3663
  let c5 : Index := 5#32
  ![v3721.toNat, 5]
def k0_off13 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3728 : Index := Scalar.indexCast v3663
  let c640_1250 : Index := 640#32
  ![v3728.toNat, 640]
def k0_off14 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3732 : Index := Scalar.indexCast v3663
  let c6 : Index := 6#32
  ![v3732.toNat, 6]
def k0_off15 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3739 : Index := Scalar.indexCast v3663
  let c768_1253 : Index := 768#32
  ![v3739.toNat, 768]
def k0_off16 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3743 : Index := Scalar.indexCast v3663
  let c7 : Index := 7#32
  ![v3743.toNat, 7]
def k0_off17 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3750 : Index := Scalar.indexCast v3663
  let c896_1256 : Index := 896#32
  ![v3750.toNat, 896]
def k0_off18 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3754 : Index := Scalar.indexCast v3663
  let c8 : Index := 8#32
  ![v3754.toNat, 8]
def k0_off19 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3761 : Index := Scalar.indexCast v3663
  let c1024_1259 : Index := 1024#32
  ![v3761.toNat, 1024]
def k0_off20 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3765 : Index := Scalar.indexCast v3663
  let c9 : Index := 9#32
  ![v3765.toNat, 9]
def k0_off21 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3772 : Index := Scalar.indexCast v3663
  let c1152_1262 : Index := 1152#32
  ![v3772.toNat, 1152]
def k0_off22 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3776 : Index := Scalar.indexCast v3663
  let c10 : Index := 10#32
  ![v3776.toNat, 10]
def k0_off23 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3783 : Index := Scalar.indexCast v3663
  let c1280_1265 : Index := 1280#32
  ![v3783.toNat, 1280]
def k0_off24 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3787 : Index := Scalar.indexCast v3663
  let c11 : Index := 11#32
  ![v3787.toNat, 11]
def k0_off25 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3794 : Index := Scalar.indexCast v3663
  let c1408_1268 : Index := 1408#32
  ![v3794.toNat, 1408]
def k0_off26 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3798 : Index := Scalar.indexCast v3663
  let c12 : Index := 12#32
  ![v3798.toNat, 12]
def k0_off27 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3805 : Index := Scalar.indexCast v3663
  let c1536_1271 : Index := 1536#32
  ![v3805.toNat, 1536]
def k0_off28 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3809 : Index := Scalar.indexCast v3663
  let c13 : Index := 13#32
  ![v3809.toNat, 13]
def k0_off29 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3816 : Index := Scalar.indexCast v3663
  let c1664_1274 : Index := 1664#32
  ![v3816.toNat, 1664]
def k0_off30 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3820 : Index := Scalar.indexCast v3663
  let c14 : Index := 14#32
  ![v3820.toNat, 14]
def k0_off31 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3827 : Index := Scalar.indexCast v3663
  let c1792_1277 : Index := 1792#32
  ![v3827.toNat, 1792]
def k0_off32 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3831 : Index := Scalar.indexCast v3663
  let c15 : Index := 15#32
  ![v3831.toNat, 15]
def k0_off33 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3838 : Index := Scalar.indexCast v3663
  let c1920_1280 : Index := 1920#32
  ![v3838.toNat, 1920]
def k0_off34 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3842 : Index := Scalar.indexCast v3663
  let c16 : Index := 16#32
  ![v3842.toNat, 16]
def k0_off35 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3849 : Index := Scalar.indexCast v3663
  let c2048_1283 : Index := 2048#32
  ![v3849.toNat, 2048]
def k0_off36 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3853 : Index := Scalar.indexCast v3663
  let c17 : Index := 17#32
  ![v3853.toNat, 17]
def k0_off37 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3860 : Index := Scalar.indexCast v3663
  let c2176_1286 : Index := 2176#32
  ![v3860.toNat, 2176]
def k0_off38 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3864 : Index := Scalar.indexCast v3663
  let c18 : Index := 18#32
  ![v3864.toNat, 18]
def k0_off39 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3871 : Index := Scalar.indexCast v3663
  let c2304_1289 : Index := 2304#32
  ![v3871.toNat, 2304]
def k0_off40 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3875 : Index := Scalar.indexCast v3663
  let c19 : Index := 19#32
  ![v3875.toNat, 19]
def k0_off41 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3882 : Index := Scalar.indexCast v3663
  let c2432_1292 : Index := 2432#32
  ![v3882.toNat, 2432]
def k0_off42 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3886 : Index := Scalar.indexCast v3663
  let c20 : Index := 20#32
  ![v3886.toNat, 20]
def k0_off43 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3893 : Index := Scalar.indexCast v3663
  let c2560_1295 : Index := 2560#32
  ![v3893.toNat, 2560]
def k0_off44 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3897 : Index := Scalar.indexCast v3663
  let c21 : Index := 21#32
  ![v3897.toNat, 21]
def k0_off45 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3904 : Index := Scalar.indexCast v3663
  let c2688_1298 : Index := 2688#32
  ![v3904.toNat, 2688]
def k0_off46 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3908 : Index := Scalar.indexCast v3663
  let c22 : Index := 22#32
  ![v3908.toNat, 22]
def k0_off47 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3915 : Index := Scalar.indexCast v3663
  let c2816_1301 : Index := 2816#32
  ![v3915.toNat, 2816]
def k0_off48 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3919 : Index := Scalar.indexCast v3663
  let c23 : Index := 23#32
  ![v3919.toNat, 23]
def k0_off49 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3926 : Index := Scalar.indexCast v3663
  let c2944_1304 : Index := 2944#32
  ![v3926.toNat, 2944]
def k0_off50 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3930 : Index := Scalar.indexCast v3663
  let c24 : Index := 24#32
  ![v3930.toNat, 24]
def k0_off51 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3937 : Index := Scalar.indexCast v3663
  let c3072_1307 : Index := 3072#32
  ![v3937.toNat, 3072]
def k0_off52 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3941 : Index := Scalar.indexCast v3663
  let c25 : Index := 25#32
  ![v3941.toNat, 25]
def k0_off53 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3948 : Index := Scalar.indexCast v3663
  let c3200_1310 : Index := 3200#32
  ![v3948.toNat, 3200]
def k0_off54 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3952 : Index := Scalar.indexCast v3663
  let c26 : Index := 26#32
  ![v3952.toNat, 26]
def k0_off55 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3959 : Index := Scalar.indexCast v3663
  let c3328_1313 : Index := 3328#32
  ![v3959.toNat, 3328]
def k0_off56 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3963 : Index := Scalar.indexCast v3663
  let c27 : Index := 27#32
  ![v3963.toNat, 27]
def k0_off57 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3970 : Index := Scalar.indexCast v3663
  let c3456_1316 : Index := 3456#32
  ![v3970.toNat, 3456]
def k0_off58 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3974 : Index := Scalar.indexCast v3663
  let c28 : Index := 28#32
  ![v3974.toNat, 28]
def k0_off59 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3981 : Index := Scalar.indexCast v3663
  let c3584_1319 : Index := 3584#32
  ![v3981.toNat, 3584]
def k0_off60 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3985 : Index := Scalar.indexCast v3663
  let c29 : Index := 29#32
  ![v3985.toNat, 29]
def k0_off61 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3992 : Index := Scalar.indexCast v3663
  let c3712_1322 : Index := 3712#32
  ![v3992.toNat, 3712]
def k0_off62 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v3996 : Index := Scalar.indexCast v3663
  let c30 : Index := 30#32
  ![v3996.toNat, 30]
def k0_off63 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4003 : Index := Scalar.indexCast v3663
  let c3840_1325 : Index := 3840#32
  ![v4003.toNat, 3840]
def k0_off64 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4007 : Index := Scalar.indexCast v3663
  let c31 : Index := 31#32
  ![v4007.toNat, 31]
def k0_off65 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4014 : Index := Scalar.indexCast v3663
  let c3968_1328 : Index := 3968#32
  ![v4014.toNat, 3968]
def k0_off66 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4018 : Index := Scalar.indexCast v3663
  let c32 : Index := 32#32
  ![v4018.toNat, 32]
def k0_off67 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4025 : Index := Scalar.indexCast v3663
  let c4096_1331 : Index := 4096#32
  ![v4025.toNat, 4096]
def k0_off68 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4029 : Index := Scalar.indexCast v3663
  let c33 : Index := 33#32
  ![v4029.toNat, 33]
def k0_off69 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4036 : Index := Scalar.indexCast v3663
  let c4224_1334 : Index := 4224#32
  ![v4036.toNat, 4224]
def k0_off70 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4040 : Index := Scalar.indexCast v3663
  let c34 : Index := 34#32
  ![v4040.toNat, 34]
def k0_off71 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4047 : Index := Scalar.indexCast v3663
  let c4352_1337 : Index := 4352#32
  ![v4047.toNat, 4352]
def k0_off72 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4051 : Index := Scalar.indexCast v3663
  let c35 : Index := 35#32
  ![v4051.toNat, 35]
def k0_off73 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4058 : Index := Scalar.indexCast v3663
  let c4480_1340 : Index := 4480#32
  ![v4058.toNat, 4480]
def k0_off74 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4062 : Index := Scalar.indexCast v3663
  let c36 : Index := 36#32
  ![v4062.toNat, 36]
def k0_off75 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4069 : Index := Scalar.indexCast v3663
  let c4608_1343 : Index := 4608#32
  ![v4069.toNat, 4608]
def k0_off76 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4073 : Index := Scalar.indexCast v3663
  let c37 : Index := 37#32
  ![v4073.toNat, 37]
def k0_off77 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4080 : Index := Scalar.indexCast v3663
  let c4736_1346 : Index := 4736#32
  ![v4080.toNat, 4736]
def k0_off78 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4084 : Index := Scalar.indexCast v3663
  let c38 : Index := 38#32
  ![v4084.toNat, 38]
def k0_off79 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4091 : Index := Scalar.indexCast v3663
  let c4864_1349 : Index := 4864#32
  ![v4091.toNat, 4864]
def k0_off80 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4095 : Index := Scalar.indexCast v3663
  let c39 : Index := 39#32
  ![v4095.toNat, 39]
def k0_off81 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4102 : Index := Scalar.indexCast v3663
  let c4992_1352 : Index := 4992#32
  ![v4102.toNat, 4992]
def k0_off82 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4106 : Index := Scalar.indexCast v3663
  let c40 : Index := 40#32
  ![v4106.toNat, 40]
def k0_off83 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4113 : Index := Scalar.indexCast v3663
  let c5120_1355 : Index := 5120#32
  ![v4113.toNat, 5120]
def k0_off84 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4117 : Index := Scalar.indexCast v3663
  let c41 : Index := 41#32
  ![v4117.toNat, 41]
def k0_off85 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4124 : Index := Scalar.indexCast v3663
  let c5248_1358 : Index := 5248#32
  ![v4124.toNat, 5248]
def k0_off86 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4128 : Index := Scalar.indexCast v3663
  let c42 : Index := 42#32
  ![v4128.toNat, 42]
def k0_off87 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4135 : Index := Scalar.indexCast v3663
  let c5376_1361 : Index := 5376#32
  ![v4135.toNat, 5376]
def k0_off88 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4139 : Index := Scalar.indexCast v3663
  let c43 : Index := 43#32
  ![v4139.toNat, 43]
def k0_off89 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4146 : Index := Scalar.indexCast v3663
  let c5504_1364 : Index := 5504#32
  ![v4146.toNat, 5504]
def k0_off90 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4150 : Index := Scalar.indexCast v3663
  let c44 : Index := 44#32
  ![v4150.toNat, 44]
def k0_off91 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4157 : Index := Scalar.indexCast v3663
  let c5632_1367 : Index := 5632#32
  ![v4157.toNat, 5632]
def k0_off92 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4161 : Index := Scalar.indexCast v3663
  let c45 : Index := 45#32
  ![v4161.toNat, 45]
def k0_off93 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4168 : Index := Scalar.indexCast v3663
  let c5760_1370 : Index := 5760#32
  ![v4168.toNat, 5760]
def k0_off94 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4172 : Index := Scalar.indexCast v3663
  let c46 : Index := 46#32
  ![v4172.toNat, 46]
def k0_off95 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4179 : Index := Scalar.indexCast v3663
  let c5888_1373 : Index := 5888#32
  ![v4179.toNat, 5888]
def k0_off96 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4183 : Index := Scalar.indexCast v3663
  let c47 : Index := 47#32
  ![v4183.toNat, 47]
def k0_off97 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4190 : Index := Scalar.indexCast v3663
  let c6016_1376 : Index := 6016#32
  ![v4190.toNat, 6016]
def k0_off98 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4194 : Index := Scalar.indexCast v3663
  let c48 : Index := 48#32
  ![v4194.toNat, 48]
def k0_off99 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4201 : Index := Scalar.indexCast v3663
  let c6144_1379 : Index := 6144#32
  ![v4201.toNat, 6144]
def k0_off100 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4205 : Index := Scalar.indexCast v3663
  let c49 : Index := 49#32
  ![v4205.toNat, 49]
def k0_off101 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4212 : Index := Scalar.indexCast v3663
  let c6272_1382 : Index := 6272#32
  ![v4212.toNat, 6272]
def k0_off102 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4216 : Index := Scalar.indexCast v3663
  let c50 : Index := 50#32
  ![v4216.toNat, 50]
def k0_off103 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4223 : Index := Scalar.indexCast v3663
  let c6400_1385 : Index := 6400#32
  ![v4223.toNat, 6400]
def k0_off104 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4227 : Index := Scalar.indexCast v3663
  let c51 : Index := 51#32
  ![v4227.toNat, 51]
def k0_off105 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4234 : Index := Scalar.indexCast v3663
  let c6528_1388 : Index := 6528#32
  ![v4234.toNat, 6528]
def k0_off106 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4238 : Index := Scalar.indexCast v3663
  let c52 : Index := 52#32
  ![v4238.toNat, 52]
def k0_off107 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4245 : Index := Scalar.indexCast v3663
  let c6656_1391 : Index := 6656#32
  ![v4245.toNat, 6656]
def k0_off108 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4249 : Index := Scalar.indexCast v3663
  let c53 : Index := 53#32
  ![v4249.toNat, 53]
def k0_off109 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4256 : Index := Scalar.indexCast v3663
  let c6784_1394 : Index := 6784#32
  ![v4256.toNat, 6784]
def k0_off110 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4260 : Index := Scalar.indexCast v3663
  let c54 : Index := 54#32
  ![v4260.toNat, 54]
def k0_off111 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4267 : Index := Scalar.indexCast v3663
  let c6912_1397 : Index := 6912#32
  ![v4267.toNat, 6912]
def k0_off112 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4271 : Index := Scalar.indexCast v3663
  let c55 : Index := 55#32
  ![v4271.toNat, 55]
def k0_off113 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4278 : Index := Scalar.indexCast v3663
  let c7040_1400 : Index := 7040#32
  ![v4278.toNat, 7040]
def k0_off114 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4282 : Index := Scalar.indexCast v3663
  let c56 : Index := 56#32
  ![v4282.toNat, 56]
def k0_off115 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4289 : Index := Scalar.indexCast v3663
  let c7168_1403 : Index := 7168#32
  ![v4289.toNat, 7168]
def k0_off116 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4293 : Index := Scalar.indexCast v3663
  let c57 : Index := 57#32
  ![v4293.toNat, 57]
def k0_off117 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4300 : Index := Scalar.indexCast v3663
  let c7296_1406 : Index := 7296#32
  ![v4300.toNat, 7296]
def k0_off118 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4304 : Index := Scalar.indexCast v3663
  let c58 : Index := 58#32
  ![v4304.toNat, 58]
def k0_off119 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4311 : Index := Scalar.indexCast v3663
  let c7424_1409 : Index := 7424#32
  ![v4311.toNat, 7424]
def k0_off120 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4315 : Index := Scalar.indexCast v3663
  let c59 : Index := 59#32
  ![v4315.toNat, 59]
def k0_off121 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4322 : Index := Scalar.indexCast v3663
  let c7552_1412 : Index := 7552#32
  ![v4322.toNat, 7552]
def k0_off122 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4326 : Index := Scalar.indexCast v3663
  let c60 : Index := 60#32
  ![v4326.toNat, 60]
def k0_off123 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4333 : Index := Scalar.indexCast v3663
  let c7680_1415 : Index := 7680#32
  ![v4333.toNat, 7680]
def k0_off124 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4337 : Index := Scalar.indexCast v3663
  let c61 : Index := 61#32
  ![v4337.toNat, 61]
def k0_off125 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4344 : Index := Scalar.indexCast v3663
  let c7808_1418 : Index := 7808#32
  ![v4344.toNat, 7808]
def k0_off126 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4348 : Index := Scalar.indexCast v3663
  let c62 : Index := 62#32
  ![v4348.toNat, 62]
def k0_off127 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4355 : Index := Scalar.indexCast v3663
  let c7936_1421 : Index := 7936#32
  ![v4355.toNat, 7936]
def k0_off128 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4359 : Index := Scalar.indexCast v3663
  let c63 : Index := 63#32
  ![v4359.toNat, 63]
def k0_off129 (k0_t1 : Fin k0_t1_loop.trips) : Fin 2 → Nat :=
  let c0_i32_1229 : BitVec 32 := 0#32
  let c0_i32_1224 : BitVec 32 := 0#32
  let c1_i32_1226 : BitVec 32 := 1#32
  let arg11 : BitVec 32 := Scf.iv c0_i32_1224 c1_i32_1226 k0_t1
  let c1_i32_1228 : BitVec 32 := 1#32
  let v3660 : BitVec 32 := Scalar.muli arg11 c1_i32_1228
  let v3661 : BitVec 32 := Scalar.addi c0_i32_1229 v3660
  let c128_i32 : BitVec 32 := 128#32
  let v3662 : BitVec 32 := Scalar.muli v3661 c128_i32
  let v3663 : BitVec 32 := v3662
  let v4366 : Index := Scalar.indexCast v3663
  let c8064_1424 : Index := 8064#32
  ![v4366.toNat, 8064]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8x3072x8192 : Shape := ⟨3, ![8, 3072, 8192]⟩
abbrev S2048x8192 : Shape := ⟨2, ![2048, 8192]⟩
abbrev S2048x64 : Shape := ⟨2, ![2048, 64]⟩
abbrev S24576x8192 : Shape := ⟨2, ![24576, 8192]⟩
abbrev S24576x2048 : Shape := ⟨2, ![24576, 2048]⟩
abbrev S24576x64 : Shape := ⟨2, ![24576, 64]⟩
abbrev S24576x64x128 : Shape := ⟨3, ![24576, 64, 128]⟩
abbrev S24576x64x1 : Shape := ⟨3, ![24576, 64, 1]⟩
abbrev S2048x64x128 : Shape := ⟨3, ![2048, 64, 128]⟩
abbrev S2048x64x1 : Shape := ⟨3, ![2048, 64, 1]⟩

abbrev nBuf : Space → Nat
  | .hbm => 7
  | .vmem => 6
  | .smem => 0
  | _ => 0

abbrev bufTy : (tb : Table) → Fin (tcTables nBuf tb) → BufTy
  | .hbm, ⟨0, _⟩ => ⟨S8x3072x8192, .bf16⟩
  | .hbm, ⟨1, _⟩ => ⟨S2048x8192, .fp8e4m3⟩
  | .hbm, ⟨2, _⟩ => ⟨S2048x64, .f32⟩
  | .hbm, ⟨3, _⟩ => ⟨S24576x8192, .bf16⟩
  | .hbm, ⟨4, _⟩ => ⟨S24576x2048, .bf16⟩
  | .hbm, ⟨5, _⟩ => ⟨S24576x8192, .fp8e4m3⟩
  | .hbm, ⟨6, _⟩ => ⟨S24576x64, .f32⟩
  | .local _ .vmem, ⟨0, _⟩ => ⟨S24576x8192, .bf16⟩
  | .local _ .vmem, ⟨1, _⟩ => ⟨S2048x8192, .fp8e4m3⟩
  | .local _ .vmem, ⟨2, _⟩ => ⟨S2048x64, .f32⟩
  | .local _ .vmem, ⟨3, _⟩ => ⟨S24576x2048, .bf16⟩
  | .local _ .vmem, ⟨4, _⟩ => ⟨S24576x8192, .fp8e4m3⟩
  | .local _ .vmem, ⟨5, _⟩ => ⟨S24576x64, .f32⟩
  | _, _ => ⟨S8x3072x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S24576x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S24576x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Spec.lean ====
/- The mathematics of the three results, over the extended reals, away from both programs.

   A matrix of 8192 columns is cut into 64 groups of 128 columns. Each row of each group has a threshold, its greatest
   magnitude over 448; from the threshold come a scale and an inverse scale; the codes are the elements times the inverse
   scale, clipped to ±448; the product takes the codes times the scale against the weight times its own scales.

   Everything here is stated for any number of rows and for any two functions that give a scale and an inverse scale of a
   threshold: the kernel and the reference differ in those two functions and in nothing else. -/
module

public import Idealize.ShloMosaic.PureOps.Ideal
public import Idealize.ShloMosaic.PureOps.Ideal.Laws
public import Idealize.ShloMosaic.Lib.ValueIdxCore

@[expose] public section

noncomputable section

namespace Cert.Quant

open Idealize.ShloMosaic Idealize.ShloMosaic.ValueIdx

/-- A matrix of extended reals. -/
abbrev Mat (m n : ℕ) : Type := (⟨2, ![m, n]⟩ : Shape).Idx → EReal

/-- The group a column lies in. -/
def group (k : Fin 8192) : Fin 64 := ⟨k.val / 128, by omega⟩

/-- The `j`-th column of group `g`. -/
def column (g : Fin 64) (j : Fin 128) : Fin 8192 := ⟨128 * g.val + j.val, by omega⟩

theorem group_column (g : Fin 64) (j : Fin 128) : group (column g j) = g := by
  apply Fin.ext; simp only [group, column]; omega

/-- The greatest of 128 magnitudes, times the single-precision constant nearest to 1/448. -/
def threshold (x : Fin 128 → EReal) : EReal :=
  (Finset.univ : Finset (Fin 128)).fold max ⊥ (fun j => max (x j) (-x j)) * Ideal.ofBits .f32 0x3B124925#32

variable {m n : ℕ} (scale inv : EReal → EReal)

/-- The threshold of one row of one group. -/
def rowThreshold (x : Mat m 8192) (r : Fin m) (g : Fin 64) : EReal := threshold fun j => x (ix2 r (column g j))

/-- An element scaled and clipped to ±448. -/
def code (x i : EReal) : EReal := min (Ideal.ofBits .f32 0x43E00000#32) (max (Ideal.ofBits .f32 0xC3E00000#32) (x * i))

/-- The scales: one per row and group. -/
def scales (x : Mat m 8192) : Mat m 64 := fun y => scale (rowThreshold x (y 0) (y 1))

/-- The codes. -/
def codes (x : Mat m 8192) : Mat m 8192 := fun y => code (x y) (inv (rowThreshold x (y 0) (group (y 1))))

/-- The codes times their scales. -/
def scaled (x : Mat m 8192) : Mat m 8192 := fun y => codes inv x y * scale (rowThreshold x (y 0) (group (y 1)))

/-- The weight times its scales. -/
def weight (w : Mat n 8192) (s : Mat n 64) : Mat n 8192 := fun y => w y * s (ix2 (y 0) (group (y 1)))

/-- The product of the scaled codes with a weight, the columns contracted. -/
def product (x : Mat m 8192) (ww : Mat n 8192) : Mat m n :=
  fun y => ∑ k : Fin 8192, scaled scale inv x (ix2 (y 0) k) * ww (ix2 (y 1) k)

/-- The quantiser's exponent as the reference writes it: one more than the floor of the threshold's binary logarithm, and
    0 for a threshold below the smallest normal number and for an infinite one. -/
def exponent (t : EReal) : EReal :=
  Scalar.select (IntOp.ori (Ideal.cmp .olt t (Ideal.ofBits .f32 0x00800000#32)) (Ideal.cmp .oeq t (Ideal.ofBits .f32 0x7F800000#32)))
    (Ideal.ofBits .f32 0#32)
    (Ideal.liftRound Int.floor (Ideal.div (Ideal.log t) (Ideal.log (Ideal.ofBits .f32 0x40000000#32))) + Ideal.ofBits .f32 0x3F800000#32)

/-- The reference's scale of a threshold: two to the exponent. -/
def refScale (t : EReal) : EReal := Ideal.exp2 (exponent t)

/-- The reference's inverse scale of a threshold: two to the negated exponent. -/
def refInv (t : EReal) : EReal := Ideal.exp2 (Ideal.ofBits .f32 0#32 - exponent t)

end Cert.Quant

end
-- ==== Proof.Groups.lean ====
/- One group of 128 columns of a 256-row block, in the kernel's own operations.

   The body quantises its block one group after another, 64 times the same lines over another slab of 128 columns.
   This module names what those lines compute of a slab, once: the scale, the codes, and the codes times the scale.
   `Block.lean` shows that all 64 printed copies are these. -/
module

public import proofs.«01_k».proof.Proof.Gen.KernelIdeal.Skeleton

@[expose] public section

noncomputable section

namespace Cert.KernelIdeal.Hand

open Cert.KernelIdeal Cert.KernelIdeal.Gen Idealize.ShloMosaic Idealize.ShloMosaic.TcCoe

variable {F : FTy → Type} [FloatOps F]

/-- The 128 columns of group `g` lie inside the 8192 columns of a block. -/
theorem inb_group : ∀ (g : Fin 64) (a : Fin 2), (![0, 128 * g.val] : Fin 2 → Nat) a + S256x128.size a ≤ S256x8192.size a := by
  decide +kernel

/-- The columns of group `g` of a 256-row block: all rows, columns `128 g` to `128 g + 127`. -/
def groupRect (g : Fin 64) : Rect S256x8192 := Rect.unit (s := S256x8192) ![0, 128 * g.val] S256x128.size (inb_group g)

/-- The scale of each row of a slab, a power of two. -/
def scaleOf (v : Vec F S256x128 .bf16) : FVec F S256x1 .f32 := k0_pay82 v

/-- The fp8 codes of a slab: each element times the inverse scale of its row, clipped to ±448. -/
def codesOf (v : Vec F S256x128 .bf16) : FVec F S256x128 .fp8e4m3 := k0_pay84 (k0_pay80 v) (k0_pay83 v)

/-- The slab quantised and scaled back: each code times the scale of its row. -/
def wideOf (v : Vec F S256x128 .bf16) : FVec F S256x128 .bf16 := k0_pay85 (k0_pay80 v) (k0_pay82 v) (k0_pay83 v)

/-- The 64 stores of codes, last first, when the slab of group `g` is `ld g`. -/
def codesPieces (ld : Fin 64 → Vec F S256x128 .bf16) : List (View.Piece (Elt F) S256x8192 .fp8e4m3) :=
  (List.finRange 64).reverse.map fun g => ⟨groupRect g, codesOf (ld g)⟩

/-- The 64 stores of the slabs quantised and scaled back, last first. -/
def widePieces (ld : Fin 64 → Vec F S256x128 .bf16) : List (View.Piece (Elt F) S256x8192 .bf16) :=
  (List.finRange 64).reverse.map fun g => ⟨groupRect g, wideOf (ld g)⟩

/-- The array of scales after the first `n` groups: lane `g` of it holds the scale of group `g`, zero from lane `n` on. -/
def scalesUpTo (ld : Fin 64 → Vec F S256x128 .bf16) : (n : ℕ) → n ≤ 64 → FVec F S256x64 .f32
  | 0, _ => k0_pay79
  | n + 1, h =>
    select (cmpi .eq (iota .tc S256x64 32 [1] iota_S256x64_d1_w32) (broadcast S256x64 (BitVec.ofNat 32 n)))
      (broadcastTo S256x64 (shapeCast S256x1 (scaleOf (ld ⟨n, h⟩)) shapeCasts_S256x1_S256x1) broadcasts_S256x1_S256x64)
      (scalesUpTo ld n (Nat.le_of_succ_le h))

end Cert.KernelIdeal.Hand

end
-- ==== Proof.Slab.lean ====
/- What the kernel's lines compute of one slab of 128 columns, read at an index over the extended reals. -/
module

public import proofs.«01_k».proof.Proof.Spec
public import proofs.«01_k».proof.Proof.Groups
public import Idealize.ShloMosaic.Lib.Pipeline.Value

@[expose] public section

noncomputable section

namespace Cert.KernelIdeal.Hand

open Cert.KernelIdeal Cert.KernelIdeal.Gen Cert.Quant Idealize.ShloMosaic Idealize.ShloMosaic.TcCoe
open ValueIdx

/-- The greatest exponent field `j` among 0 … 255 whose power of two (the single-precision number of that field and zero
    fraction) the threshold reaches. -/
def fieldReached (t : EReal) : BitVec 32 :=
  Ideal.fptosi 32 ((Finset.univ : Finset (Fin 256)).fold max ⊥ fun j =>
    Scalar.select (Ideal.cmp .oge t (Ideal.ofBits .f32 (IntOp.shli .vector (BitVec.ofNat 32 j.val) 23#32)))
      (FloatOps.sitofp (F := Ideal) .f32 (BitVec.ofNat 32 j.val)) (Ideal.ofBits .f32 0#32))

/-- The exponent field the kernel goes on with: 126 in place of 0 and of 255. -/
def field (t : EReal) : BitVec 32 :=
  Scalar.select (IntOp.ori (IntOp.cmpi .eq (fieldReached t) 0#32) (IntOp.cmpi .eq (fieldReached t) 255#32)) 126#32 (fieldReached t)

/-- The kernel's scale of a threshold. -/
def kernelScale (t : EReal) : EReal := Ideal.ofBits .f32 (IntOp.shli .vector (IntOp.addi (field t) 1#32) 23#32)

/-- The kernel's inverse scale of a threshold. -/
def kernelInv (t : EReal) : EReal := Ideal.ofBits .f32 (IntOp.shli .vector (IntOp.subi 253#32 (field t)) 23#32)

/-- A column of 256 values viewed 256 × 1. -/
theorem cast_column {α : Type} (v : S256.Idx → α) (r : Fin 256) (z : Fin 1) :
    shapeCast S256x1 v shapeCasts_S256_S256x1 (ix2 r z) = v (ix1 r) := by
  refine shapeCast_apply v _ _ (ix1 r) ?_
  rw [Shape.rowMajor_val_one, Shape.rowMajor_val_two]
  show r.val = r.val * 1 + z.val
  omega

/-- A column of 256 values repeated along the rows. -/
theorem spread {α : Type} {k : ℕ} (v : S256x1.Idx → α) (h : S256x1.Broadcasts ⟨2, ![256, k]⟩) (r : Fin 256) (j : Fin k) :
    broadcastTo ⟨2, ![256, k]⟩ v h (ix2 r j) = v (ix2 r 0) := by
  refine broadcastTo_apply v _ _ (ix2 r 0) ?_
  intro a
  fin_cases a <;> simp

/-- The greatest value of each row, as a column. -/
theorem row_max {k : ℕ} (v : FVec Ideal ⟨2, ![256, k]⟩ .f32) (h : (⟨2, ![256, k]⟩ : Shape).Reduces [1] S256) (h' h'')
    (r : Fin 256) (z : Fin 1) :
    shapeCast S256x1 (multiReduction (F := Ideal) .maximumf [1] S256 v 0xFF800000#32 h h' h'') shapeCasts_S256_S256x1 (ix2 r z)
      = (Finset.univ : Finset (Fin k)).fold max ⊥ fun j => v (ix2 r j) := by
  rw [cast_column, Ideal.multiReduction_maximumf_single]
  have hb : (FloatOps.ofBits (F := Ideal) .f32 0xFF800000#32) = (⊥ : EReal) := by
    show Ideal.ofBits .f32 _ = _
    simp [Ideal.ofBits, Ideal.ieee]
  rw [hb]
  refine congrArg (fun f => Finset.fold max ⊥ f Finset.univ) (funext fun (j : Fin k) => congrArg v ?_)
  funext a
  fin_cases a <;> rfl

/-- The greatest magnitude of a row of a slab, times 1/448. -/
theorem threshold_apply (v : Vec Ideal S256x128 .bf16) (h h' h'') (r : Fin 256) (z : Fin 1) :
    mulf (shapeCast S256x1 (multiReduction (F := Ideal) .maximumf [1] S256 (absf (k0_pay80 v)) 0xFF800000#32 h h' h'')
      shapeCasts_S256_S256x1) (broadcast S256x1 (Scalar.ofBits (F := Ideal) .f32 0x3B124925#32)) (ix2 r z)
      = threshold fun j => v (ix2 r j) := by
  show shapeCast S256x1 _ _ (ix2 r z) * _ = _
  rw [row_max]
  unfold threshold k0_pay80
  dsimp only
  rw [shapeCast_self]
  rfl

/-- The row numbers along the lanes. -/
theorem lane_number (k : ℕ) (h : (⟨2, ![256, k]⟩ : Shape).Iotas .tc 32 [1]) (r : Fin 256) (j : Fin k) :
    iota .tc ⟨2, ![256, k]⟩ 32 [1] h (ix2 r j) = BitVec.ofNat 32 j.val := iota_single_apply ..

/-- The exponent field a row of a slab reaches, with the row's thresholds `t` given as a column. -/
theorem fieldReached_apply (t : FVec Ideal S256x1 .f32) (h' h'') (r : Fin 256) (z : Fin 1) :
    fptosi 32 (shapeCast S256x1 (multiReduction (F := Ideal) .maximumf [1] S256
      (select (cmpf .oge (broadcastTo S256x256 t broadcasts_S256x1_S256x256)
        (bitcastToFloat .f32 (shli (iota .tc S256x256 32 [1] iota_S256x256_d1_w32) (broadcast S256x256 23#32))))
        (sitofp .f32 (iota .tc S256x256 32 [1] iota_S256x256_d1_w32)) (broadcast S256x256 (Scalar.ofBits (F := Ideal) .f32 0#32)))
      0xFF800000#32 reduces_S256x256_S256 h' h'') shapeCasts_S256_S256x1) (ix2 r z) = fieldReached (t (ix2 r 0)) := by
  show FloatOps.fptosi 32 (shapeCast S256x1 _ _ (ix2 r z)) = _
  rw [row_max]
  unfold fieldReached
  refine congrArg (fun f => Ideal.fptosi 32 (Finset.fold max ⊥ f Finset.univ)) (funext fun (j : Fin 256) => ?_)
  show Scalar.select (FloatOps.cmpf (F := Ideal) (φ := .f32) .oge (broadcastTo S256x256 t _ (ix2 r j))
    (FloatOps.ofBits .f32 (IntOp.shli .vector (iota .tc S256x256 32 [1] _ (ix2 r j)) 23#32)))
    (FloatOps.sitofp .f32 (iota .tc S256x256 32 [1] _ (ix2 r j))) _ = _
  rw [spread, lane_number]
  rfl

/-- The exponent field of a row of a slab. -/
theorem field_apply (v : Vec Ideal S256x128 .bf16) (r : Fin 256) (z : Fin 1) :
    k0_pay81 v (ix2 r z) = field (threshold fun j => v (ix2 r j)) := by
  unfold k0_pay81
  dsimp only
  unfold field
  rw [← threshold_apply v reduces_S256x128_S256 (.inl rfl) rfl r 0, ← fieldReached_apply _ (.inl rfl) rfl r z]
  rfl

/-- The scale of a row of a slab. -/
theorem scale_apply (v : Vec Ideal S256x128 .bf16) (r : Fin 256) (z : Fin 1) :
    scaleOf v (ix2 r z) = kernelScale (threshold fun j => v (ix2 r j)) := by
  unfold kernelScale
  rw [← field_apply v r z]
  rfl

/-- The inverse scale of a row of a slab. -/
theorem inv_apply (v : Vec Ideal S256x128 .bf16) (r : Fin 256) (z : Fin 1) :
    bitcastToFloat (F := Ideal) .f32 (k0_pay83 v) (ix2 r z) = kernelInv (threshold fun j => v (ix2 r j)) := by
  unfold kernelInv
  rw [← field_apply v r z]
  rfl

/-- The codes of a slab. -/
theorem codes_apply (v : Vec Ideal S256x128 .bf16) (r : Fin 256) (j : Fin 128) :
    codesOf v (ix2 r j) = code (v (ix2 r j)) (kernelInv (threshold fun j => v (ix2 r j))) := by
  rw [← inv_apply v r 0]
  unfold codesOf k0_pay84 code
  show min _ (max _ (k0_pay80 v (ix2 r j) * broadcastTo S256x128 (bitcastToFloat (F := Ideal) .f32 (k0_pay83 v)) _ (ix2 r j))) = _
  rw [spread]
  unfold k0_pay80
  rw [shapeCast_self]
  rfl

/-- The codes of a slab times the scale. -/
theorem wide_apply (v : Vec Ideal S256x128 .bf16) (r : Fin 256) (j : Fin 128) :
    wideOf v (ix2 r j) = code (v (ix2 r j)) (kernelInv (threshold fun j => v (ix2 r j)))
      * kernelScale (threshold fun j => v (ix2 r j)) := by
  rw [← codes_apply, ← scale_apply v r 0]
  unfold wideOf k0_pay85
  rw [shapeCast_self]
  show codesOf v (ix2 r j) * broadcastTo S256x128 (truncf .bf16 (k0_pay82 v) bitsLt_bf16_f32) _ (ix2 r j) = _
  rw [spread]
  rfl

end Cert.KernelIdeal.Hand

end
-- ==== Proof.Block.lean ====
/- What one grid point stores, as the 64 groups of its block.

   The runs found for the two cases of the body (the first grid point, which also widens the weight, and the others) list
   the stores into each output. Here those lists are the uniform ones of `Groups.lean`, so that nothing later speaks of a
   printed group again; then each output block is one function of the block of dy and the widened weight. -/
module

public import proofs.«01_k».proof.Proof.Groups
public import proofs.«01_k».proof.Proof.Gen.KernelIdeal.Frame
public import Idealize.ShloMosaic.Lib.Pipeline.Value

@[expose] public section

set_option maxRecDepth 16384
set_option maxHeartbeats 4000000

noncomputable section

namespace Cert.KernelIdeal.Hand

open Cert.KernelIdeal Cert.KernelIdeal.Gen Idealize.ShloMosaic Idealize.ShloMosaic.TcCoe

variable {F : FTy → Type} [FloatOps F]

/-- The slab of group `g` of a block. -/
def slab (x0 : Vec F S256x8192 .bf16) (g : Fin 64) : Vec F S256x128 .bf16 := View.ld x0 (groupRect g)

/-- The dx block: the block quantised and scaled back, times the widened weight transposed. -/
def dxOf (x0 : Vec F S256x8192 .bf16) (wide : Vec F S2048x8192 .bf16) : FVec F S256x2048 .bf16 :=
  k0_pay1 (View.canon (widePieces (slab x0))) wide

/-- The corner of a block. -/
theorem corner : (![0, 0] : Fin 2 → ℕ) = fun _ => 0 := by funext a; fin_cases a <;> rfl

variable (c : Dev nD) (i : grid0.Coords)
  (arg1 : Memref sig .tc .vmem S256x8192 .bf16) (harg1 : arg1.IsWhole) (arg3 : Memref sig .tc .vmem S2048x64 .f32) (harg3 : arg3.IsWhole)
  (arg4 : Memref sig .tc .vmem S256x2048 .bf16) (harg4 : arg4.IsWhole) (arg5 : Memref sig .tc .vmem S256x8192 .fp8e4m3) (harg5 : arg5.IsWhole)
  (arg6 : Memref sig .tc .vmem S256x64 .f32) (harg6 : arg6.IsWhole) (arg7 : Memref sig .tc .vmem S128x8192 .fp8e4m3) (harg7 : arg7.IsWhole)
  (arg8 : Memref sig .tc .vmem S2048x8192 .bf16) (harg8 : arg8.IsWhole) (arg9 : Memref sig .tc .vmem S256x8192 .bf16) (harg9 : arg9.IsWhole)

/-- The slab a load of group `g` reads of the block's staging buffer. -/
def loaded (x0 : Vec F S256x8192 .bf16) (g : Fin 64) : Vec F S256x128 .bf16 :=
  View.readAt (Elt F) arg1.view (groupRect g).toLoadRect (harg1.unread x0)

/-- A load of the staging buffer that holds the block reads the block's slab. -/
theorem loaded_eq (x0 : Vec F S256x8192 .bf16) : loaded arg1 harg1 x0 = slab x0 := by
  funext g
  unfold loaded slab
  rw [View.readAt_eq_ld, harg1.read_unread]

/-- The 64 stores into the scratch, read back whole. -/
theorem wide_read (x0 : Vec F S256x8192 .bf16) :
    arg9.view.readCov (Val := Elt F) (widePieces (loaded arg1 harg1 x0)) (Rect.unit (s := S256x8192) ![0, 0] S256x8192.size inb_S256x8192_S256x8192_0_0).toLoadRect
      = View.canon (widePieces (slab x0)) := by
  rw [loaded_eq, View.readCov_eq_canon']
  exact View.ld_unit_zero corner _ _

/-- At the first grid point the stores of codes are the 64 groups'. -/
theorem codes_pieces_A (hc0 : cond0_0 i) (x0 : Vec F S256x8192 .bf16) (x1 : Vec F S2048x64 .f32) (fh0 : HbBuf0 (F := F) c hbM0_0) :
    (kernelRun0_A c i arg1 harg1 arg3 harg3 arg4 harg4 arg5 harg5 arg6 harg6 arg7 harg7 arg8 harg8 arg9 harg9 hc0 x0 x1 fh0).2.1 = codesPieces (loaded arg1 harg1 x0) := by
  rfl

/-- At the first grid point the one store of scales is the array of all 64 groups'. -/
theorem scale_pieces_A (hc0 : cond0_0 i) (x0 : Vec F S256x8192 .bf16) (x1 : Vec F S2048x64 .f32) (fh0 : HbBuf0 (F := F) c hbM0_0) :
    (kernelRun0_A c i arg1 harg1 arg3 harg3 arg4 harg4 arg5 harg5 arg6 harg6 arg7 harg7 arg8 harg8 arg9 harg9 hc0 x0 x1 fh0).2.2.1 = [⟨Rect.unit (s := S256x64) ![0, 0] S256x64.size inb_S256x64_S256x64_0_0, scalesUpTo (loaded arg1 harg1 x0) 64 (Nat.le_refl 64)⟩] := by
  rfl

/-- At the first grid point the one store of dx is the product of what the two scratches are read back to hold. -/
theorem dx_pieces_A (hc0 : cond0_0 i) (x0 : Vec F S256x8192 .bf16) (x1 : Vec F S2048x64 .f32) (fh0 : HbBuf0 (F := F) c hbM0_0) :
    (kernelRun0_A c i arg1 harg1 arg3 harg3 arg4 harg4 arg5 harg5 arg6 harg6 arg7 harg7 arg8 harg8 arg9 harg9 hc0 x0 x1 fh0).1 = [⟨Rect.unit (s := S256x2048) ![0, 0] S256x2048.size inb_S256x2048_S256x2048_0_0,
        k0_pay1 (arg9.view.readCov (Val := Elt F) (widePieces (loaded arg1 harg1 x0)) (Rect.unit (s := S256x8192) ![0, 0] S256x8192.size inb_S256x8192_S256x8192_0_0).toLoadRect)
          (arg8.view.readCov (kernelRun0_A c i arg1 harg1 arg3 harg3 arg4 harg4 arg5 harg5 arg6 harg6 arg7 harg7 arg8 harg8 arg9 harg9 hc0 x0 x1 fh0).2.2.2.1 (Rect.unit (s := S2048x8192) ![0, 0] S2048x8192.size inb_S2048x8192_S2048x8192_0_0).toLoadRect)⟩] := by
  rfl

/-- The codes block of the first grid point. -/
theorem codes_block_A (hc0 : cond0_0 i) (x0 : Vec F S256x8192 .bf16) (x1 : Vec F S2048x64 .f32) (fh0 : HbBuf0 (F := F) c hbM0_0) :
    out0_A_3 c i arg1 harg1 arg3 harg3 arg4 harg4 arg5 harg5 arg6 harg6 arg7 harg7 arg8 harg8 arg9 harg9 hc0 x0 x1 fh0 = View.canon (codesPieces (slab x0)) := by
  unfold out0_A_3
  rw [View.read_writes_junk_eq_canon, codes_pieces_A, loaded_eq]

/-- The scales block of the first grid point. -/
theorem scale_block_A (hc0 : cond0_0 i) (x0 : Vec F S256x8192 .bf16) (x1 : Vec F S2048x64 .f32) (fh0 : HbBuf0 (F := F) c hbM0_0) :
    out0_A_4 c i arg1 harg1 arg3 harg3 arg4 harg4 arg5 harg5 arg6 harg6 arg7 harg7 arg8 harg8 arg9 harg9 hc0 x0 x1 fh0 = scalesUpTo (slab x0) 64 (Nat.le_refl 64) := by
  unfold out0_A_4
  rw [View.read_writes_junk_eq_canon, scale_pieces_A, loaded_eq]
  exact View.canon_unit_zero corner _ _

/-- The dx block of the first grid point, on the widened weight it leaves in the scratch. -/
theorem dx_block_A (hc0 : cond0_0 i) (x0 : Vec F S256x8192 .bf16) (x1 : Vec F S2048x64 .f32) (fh0 : HbBuf0 (F := F) c hbM0_0) :
    out0_A_2 c i arg1 harg1 arg3 harg3 arg4 harg4 arg5 harg5 arg6 harg6 arg7 harg7 arg8 harg8 arg9 harg9 hc0 x0 x1 fh0 = dxOf x0 (sout0_A_1 c i arg1 harg1 arg3 harg3 arg4 harg4 arg5 harg5 arg6 harg6 arg7 harg7 arg8 harg8 arg9 harg9 hc0 x0 x1 fh0) := by
  unfold out0_A_2
  rw [View.read_writes_junk_eq_canon, dx_pieces_A, wide_read, View.canon_unit_zero corner]
  unfold dxOf
  rw [View.readCov_eq_canon' arg8.view]
  have e : sout0_A_1 c i arg1 harg1 arg3 harg3 arg4 harg4 arg5 harg5 arg6 harg6 arg7 harg7 arg8 harg8 arg9 harg9 hc0 x0 x1 fh0 = View.canon (kernelRun0_A c i arg1 harg1 arg3 harg3 arg4 harg4 arg5 harg5 arg6 harg6 arg7 harg7 arg8 harg8 arg9 harg9 hc0 x0 x1 fh0).2.2.2.1 := View.read_writes_junk_eq_canon _ _
  rw [e]
  exact congrArg _ (View.ld_unit_zero corner _ _)

/-- At a later grid point the stores of codes are the 64 groups'. -/
theorem codes_pieces_B (hc0 : ¬cond0_0 i) (x0 : Vec F S256x8192 .bf16) (x1 : Vec F S2048x64 .f32) (xs1 : Vec F S2048x8192 .bf16) (fh0 : HbBuf0 (F := F) c hbM0_0) :
    (kernelRun0_B c i arg1 harg1 arg3 harg3 arg4 harg4 arg5 harg5 arg6 harg6 arg7 harg7 arg8 harg8 arg9 harg9 hc0 x0 x1 xs1 fh0).2.1 = codesPieces (loaded arg1 harg1 x0) := by
  rfl

/-- At a later grid point the one store of scales is the array of all 64 groups'. -/
theorem scale_pieces_B (hc0 : ¬cond0_0 i) (x0 : Vec F S256x8192 .bf16) (x1 : Vec F S2048x64 .f32) (xs1 : Vec F S2048x8192 .bf16) (fh0 : HbBuf0 (F := F) c hbM0_0) :
    (kernelRun0_B c i arg1 harg1 arg3 harg3 arg4 harg4 arg5 harg5 arg6 harg6 arg7 harg7 arg8 harg8 arg9 harg9 hc0 x0 x1 xs1 fh0).2.2.1 = [⟨Rect.unit (s := S256x64) ![0, 0] S256x64.size inb_S256x64_S256x64_0_0, scalesUpTo (loaded arg1 harg1 x0) 64 (Nat.le_refl 64)⟩] := by
  rfl

/-- At a later grid point the one store of dx is the product of what the two scratches are read back to hold. -/
theorem dx_pieces_B (hc0 : ¬cond0_0 i) (x0 : Vec F S256x8192 .bf16) (x1 : Vec F S2048x64 .f32) (xs1 : Vec F S2048x8192 .bf16) (fh0 : HbBuf0 (F := F) c hbM0_0) :
    (kernelRun0_B c i arg1 harg1 arg3 harg3 arg4 harg4 arg5 harg5 arg6 harg6 arg7 harg7 arg8 harg8 arg9 harg9 hc0 x0 x1 xs1 fh0).1 = [⟨Rect.unit (s := S256x2048) ![0, 0] S256x2048.size inb_S256x2048_S256x2048_0_0,
        k0_pay1 (arg9.view.readCov (Val := Elt F) (widePieces (loaded arg1 harg1 x0)) (Rect.unit (s := S256x8192) ![0, 0] S256x8192.size inb_S256x8192_S256x8192_0_0).toLoadRect)
          (View.readAt (Elt F) arg8.view (Rect.unit (s := S2048x8192) ![0, 0] S2048x8192.size inb_S2048x8192_S2048x8192_0_0).toLoadRect (harg8.unread xs1))⟩] := by
  rfl

/-- The codes block of a later grid point. -/
theorem codes_block_B (hc0 : ¬cond0_0 i) (x0 : Vec F S256x8192 .bf16) (x1 : Vec F S2048x64 .f32) (xs1 : Vec F S2048x8192 .bf16) (fh0 : HbBuf0 (F := F) c hbM0_0) :
    out0_B_3 c i arg1 harg1 arg3 harg3 arg4 harg4 arg5 harg5 arg6 harg6 arg7 harg7 arg8 harg8 arg9 harg9 hc0 x0 x1 xs1 fh0 = View.canon (codesPieces (slab x0)) := by
  unfold out0_B_3
  rw [View.read_writes_junk_eq_canon, codes_pieces_B, loaded_eq]

/-- The scales block of a later grid point. -/
theorem scale_block_B (hc0 : ¬cond0_0 i) (x0 : Vec F S256x8192 .bf16) (x1 : Vec F S2048x64 .f32) (xs1 : Vec F S2048x8192 .bf16) (fh0 : HbBuf0 (F := F) c hbM0_0) :
    out0_B_4 c i arg1 harg1 arg3 harg3 arg4 harg4 arg5 harg5 arg6 harg6 arg7 harg7 arg8 harg8 arg9 harg9 hc0 x0 x1 xs1 fh0 = scalesUpTo (slab x0) 64 (Nat.le_refl 64) := by
  unfold out0_B_4
  rw [View.read_writes_junk_eq_canon, scale_pieces_B, loaded_eq]
  exact View.canon_unit_zero corner _ _

/-- The dx block of a later grid point, on the widened weight the scratch holds. -/
theorem dx_block_B (hc0 : ¬cond0_0 i) (x0 : Vec F S256x8192 .bf16) (x1 : Vec F S2048x64 .f32) (xs1 : Vec F S2048x8192 .bf16) (fh0 : HbBuf0 (F := F) c hbM0_0) :
    out0_B_2 c i arg1 harg1 arg3 harg3 arg4 harg4 arg5 harg5 arg6 harg6 arg7 harg7 arg8 harg8 arg9 harg9 hc0 x0 x1 xs1 fh0 = dxOf x0 xs1 := by
  unfold out0_B_2
  rw [View.read_writes_junk_eq_canon, dx_pieces_B, wide_read, View.canon_unit_zero corner]
  unfold dxOf
  rw [View.readAt_eq_ld, harg8.read_unread]
  exact congrArg _ (View.ld_unit_zero corner _ _)

end Cert.KernelIdeal.Hand

end
-- ==== Proof.BlockValue.lean ====
/- What a block of 256 rows computes, over the extended reals: the scales, the codes and the product of Spec.lean. -/
module

public import proofs.«01_k».proof.Proof.Slab
public import proofs.«01_k».proof.Proof.Block
public import Idealize.ShloMosaic.Lib.MatmulPlain

@[expose] public section

noncomputable section

namespace Cert.KernelIdeal.Hand

open Cert.KernelIdeal Cert.KernelIdeal.Gen Cert.Quant Idealize.ShloMosaic Idealize.ShloMosaic.TcCoe
open ValueIdx

variable (x0 : Vec Ideal S256x8192 .bf16)

/-- Row `r`, column `j` of slab `g` is row `r`, column `128 g + j` of the block. -/
theorem groupRect_emb (g : Fin 64) (r : Fin 256) (j : Fin 128) : (groupRect g).emb (ix2 r j) = ix2 r (column g j) := by
  funext a
  apply Fin.ext
  fin_cases a
  · show 0 + 1 * r.val = r.val
    omega
  · show 128 * g.val + 1 * j.val = 128 * g.val + j.val
    omega

theorem slab_apply (g : Fin 64) (r : Fin 256) (j : Fin 128) : slab x0 g (ix2 r j) = x0 (ix2 r (column g j)) :=
  congrArg x0 (groupRect_emb g r j)

theorem slab_threshold (g : Fin 64) (r : Fin 256) : (threshold fun j => slab x0 g (ix2 r j)) = rowThreshold x0 r g := by
  unfold rowThreshold
  exact congrArg threshold (funext fun j => slab_apply x0 g r j)

/-- Every element of the block lies in the slab of its column. -/
theorem mem_groupRect (y : S256x8192.Idx) : y ∈ (groupRect (group (y 1))).set := by
  unfold groupRect
  rw [Rect.mem_set_unit]
  have h0 : (y 0).val < 256 := (y 0).isLt
  have h1 : (y 1).val < 8192 := (y 1).isLt
  intro a
  fin_cases a
  · show 0 ≤ (y 0).val ∧ (y 0).val < 0 + 256
    omega
  · show 128 * ((y 1).val / 128) ≤ (y 1).val ∧ (y 1).val < 128 * ((y 1).val / 128) + 128
    omega

/-- 64 slabs put side by side hold at every element what that element's slab holds. -/
theorem canon_slabs {e : EltTy} (f : Fin 64 → Vec Ideal S256x128 e) (G : Vec Ideal S256x8192 e)
    (h : ∀ g r j, f g (ix2 r j) = G (ix2 r (column g j))) :
    View.canon (((List.finRange 64).reverse.map fun g => (⟨groupRect g, f g⟩ : View.Piece (Elt Ideal) S256x8192 e))) = G := by
  funext y
  refine View.canon_apply_of_pieces G _ ?_ y ?_
  · intro p hp x
    obtain ⟨g, -, rfl⟩ := List.mem_map.mp hp
    show f g x = G ((groupRect g).emb x)
    obtain ⟨r, j, rfl⟩ : ∃ (r : Fin 256) (j : Fin 128), x = ix2 r j := ⟨x 0, x 1, eq_ix2 x⟩
    rw [h]
    exact congrArg G (groupRect_emb g r j).symm
  · exact ⟨_, List.mem_map.mpr ⟨group (y 1), List.mem_reverse.mpr (List.mem_finRange _), rfl⟩, mem_groupRect y⟩

/-- The codes of a block. -/
theorem codes_value : View.canon (codesPieces (slab x0)) = codes kernelInv x0 := by
  refine canon_slabs _ _ fun g r j => ?_
  rw [codes_apply, slab_threshold, slab_apply]
  unfold codes
  show _ = code _ (kernelInv (rowThreshold x0 r (group (column g j))))
  rw [group_column]

/-- The codes of a block times their scales. -/
theorem wide_value : View.canon (widePieces (slab x0)) = scaled kernelScale kernelInv x0 := by
  refine canon_slabs _ _ fun g r j => ?_
  rw [wide_apply, slab_threshold, slab_apply]
  unfold scaled codes
  show _ = code _ (kernelInv (rowThreshold x0 r (group (column g j)))) * kernelScale (rowThreshold x0 r (group (column g j)))
  rw [group_column]

/-- The scales gathered from the first `n` slabs. -/
theorem scalesUpTo_apply (n : ℕ) (hn : n ≤ 64) (r : Fin 256) (g : Fin 64) (hg : g.val < n) :
    scalesUpTo (slab x0) n hn (ix2 r g) = kernelScale (rowThreshold x0 r g) := by
  induction n with
  | zero => exact absurd hg (Nat.not_lt_zero _)
  | succ n ih =>
    show Scalar.select (IntOp.cmpi .eq (iota .tc S256x64 32 [1] _ (ix2 r g)) (BitVec.ofNat 32 n))
      (broadcastTo S256x64 (shapeCast S256x1 (scaleOf (slab x0 ⟨n, hn⟩)) _) _ (ix2 r g)) (scalesUpTo (slab x0) n _ (ix2 r g)) = _
    rw [lane_number, spread, shapeCast_self, scale_apply, slab_threshold]
    by_cases h : g.val = n
    · obtain rfl : g = ⟨n, hn⟩ := Fin.ext h
      simp [Scalar.select, IntOp.cmpi]
    · have hne : BitVec.ofNat 32 g.val ≠ BitVec.ofNat 32 n := by
        intro he
        have := congrArg BitVec.toNat he
        simp only [BitVec.toNat_ofNat] at this
        omega
      rw [ih (by omega) (by omega)]
      have hb : (BitVec.ofNat 32 g.val == BitVec.ofNat 32 n) = false := beq_eq_false_iff_ne.mpr hne
      simp [Scalar.select, IntOp.cmpi, hb]

/-- The scales of a block. -/
theorem scales_value : scalesUpTo (slab x0) 64 (Nat.le_refl 64) = scales kernelScale x0 := by
  funext y
  obtain ⟨r, g, rfl⟩ : ∃ (r : Fin 256) (g : Fin 64), y = ix2 r g := ⟨y 0, y 1, eq_ix2 y⟩
  exact scalesUpTo_apply x0 64 _ r g g.isLt

/-- The product of a block with the scaled weight. -/
theorem dx_value (ww : Vec Ideal S2048x8192 .bf16) : dxOf x0 ww = product kernelScale kernelInv x0 ww := by
  funext y
  obtain ⟨r, c, rfl⟩ : ∃ (r : Fin 256) (c : Fin 2048), y = ix2 r c := ⟨y 0, y 1, eq_ix2 y⟩
  unfold dxOf
  rw [wide_value]
  have hd : dot_S256x8192_S2048x8192_S256x2048_1_1_0_0_n_n = DotDims.transposedRhs 256 8192 2048 := rfl
  have h := Ideal.matmul_transposedRhs_apply (φ₁ := .bf16) (φ₂ := .bf16) none (scaled kernelScale kernelInv x0) ww
    (constant (F := Ideal) S256x2048 .f32 0x00000000#32) r c
  have h0 : constant (F := Ideal) S256x2048 .f32 0x00000000#32 (ix2 r c) = 0 := Ideal.ofBits_zero_f32
  rw [h0, zero_add, ← hd] at h
  exact h

end Cert.KernelIdeal.Hand

end
-- ==== Proof.Weight.lean ====
/- The scratch array of the scaled weight.

   At the first grid point the kernel walks over the weight in 16 trips of 128 rows. A trip copies its rows into a staging
   buffer and stores them group by group, each group of 128 columns times its column of scales. This module shows that
   the 16 × 64 stores leave the weight times its scales. -/
module

public import proofs.«01_k».proof.Proof.Spec
public import proofs.«01_k».proof.Proof.Groups
public import proofs.«01_k».proof.Proof.Gen.KernelIdeal.Frame
public import Idealize.ShloMosaic.Lib.Pipeline.Value

@[expose] public section

noncomputable section

namespace Cert.KernelIdeal.Hand

open Cert.KernelIdeal Cert.KernelIdeal.Gen Cert.Quant Idealize.ShloMosaic Idealize.ShloMosaic.TcCoe
open ValueIdx

/-- The first row of trip `k`, as the kernel computes it. -/
def firstRow (k : Fin k0_t1_loop.trips) : ℕ := k0_off3 k 0

theorem firstRow_eq : ∀ k : Fin k0_t1_loop.trips, firstRow k = 128 * k.val := by decide +kernel

theorem trips_eq : k0_t1_loop.trips = 16 := by decide +kernel

theorem inb_tile : ∀ (k : Fin k0_t1_loop.trips) (g : Fin 64) (a : Fin 2),
    (![firstRow k, 128 * g.val] : Fin 2 → Nat) a + S128x128.size a ≤ S2048x8192.size a := by decide +kernel

theorem inb_factor : ∀ (k : Fin k0_t1_loop.trips) (g : Fin 64) (a : Fin 2),
    (![firstRow k, g.val] : Fin 2 → Nat) a + S128x1.size a ≤ S2048x64.size a := by decide +kernel

theorem inb_stage : ∀ (g : Fin 64) (a : Fin 2),
    (![0, 128 * g.val] : Fin 2 → Nat) a + S128x128.size a ≤ S128x8192.size a := by decide +kernel

/-- The rows of trip `k` and the columns of group `g` of the weight. -/
def tileRect (k : Fin k0_t1_loop.trips) (g : Fin 64) : Rect S2048x8192 :=
  Rect.unit (s := S2048x8192) ![firstRow k, 128 * g.val] S128x128.size (inb_tile k g)

/-- The rows of trip `k` and the one column of group `g` of the scales. -/
def factorRect (k : Fin k0_t1_loop.trips) (g : Fin 64) : Rect S2048x64 :=
  Rect.unit (s := S2048x64) ![firstRow k, g.val] S128x1.size (inb_factor k g)

/-- The columns of group `g` of the staging buffer. -/
def stageRect (g : Fin 64) : Rect S128x8192 := Rect.unit (s := S128x8192) ![0, 128 * g.val] S128x128.size (inb_stage g)

variable {F : FTy → Type} [FloatOps F]

set_option maxRecDepth 20000 in
/-- The 64 stores of a trip, last first. -/
theorem trip_pieces (𝒱 : Variants) (c : Dev nD) (bd : Option 𝒱.V) (i : grid0.Coords) (arg1 : Memref sig .tc .vmem S256x8192 .bf16) (harg1 : arg1.IsWhole) (arg2 : Memref sig .tc .hbm S2048x8192 .fp8e4m3) (harg2 : arg2.IsWhole) (arg3 : Memref sig .tc .vmem S2048x64 .f32) (harg3 : arg3.IsWhole) (arg4 : Memref sig .tc .vmem S256x2048 .bf16) (harg4 : arg4.IsWhole) (arg5 : Memref sig .tc .vmem S256x8192 .fp8e4m3) (harg5 : arg5.IsWhole) (arg6 : Memref sig .tc .vmem S256x64 .f32) (harg6 : arg6.IsWhole) (arg7 : Memref sig .tc .vmem S128x8192 .fp8e4m3) (harg7 : arg7.IsWhole) (arg8 : Memref sig .tc .vmem S2048x8192 .bf16) (harg8 : arg8.IsWhole) (arg9 : Memref sig .tc .vmem S256x8192 .bf16) (harg9 : arg9.IsWhole) (arg10 : DmaSems sig S_) (k0_h1 : k0_cond1 i = 1#1) (X_arg3 : BufTy.Contents (Elt F) arg3.view.ty) (X_arg2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 arg10 k0_h1 X_arg3 X_arg2 k
      = (List.finRange 64).reverse.map fun g => ⟨tileRect k g,
          k0_pay2 (View.readAt (Elt F) arg3.view (factorRect k g).toLoadRect X_arg3)
            (arg7.view.readCov [⟨Rect.whole S128x8192, trip_k0_t1.sl.dma0 i arg2 k0_h1 X_arg2 k⟩] (stageRect g).toLoadRect)⟩ := by
  unfold tripL_k0_t1 trip_k0_t1
  rfl

/-- Row `a` of trip `k`. -/
def row (k : Fin k0_t1_loop.trips) (a : Fin 128) : Fin 2048 :=
  ⟨128 * k.val + a.val, by have := k.isLt; have := trips_eq; have := a.isLt; omega⟩

theorem tileRect_emb (k : Fin k0_t1_loop.trips) (g : Fin 64) (a b : Fin 128) :
    (tileRect k g).emb (ix2 a b) = ix2 (row k a) (column g b) := by
  funext d
  apply Fin.ext
  fin_cases d
  · show firstRow k + 1 * a.val = 128 * k.val + a.val
    rw [firstRow_eq]
    omega
  · show 128 * g.val + 1 * b.val = 128 * g.val + b.val
    omega

theorem factorRect_emb (k : Fin k0_t1_loop.trips) (g : Fin 64) (a : Fin 128) :
    (factorRect k g).emb (ix2 a 0) = ix2 (row k a) g := by
  funext d
  apply Fin.ext
  fin_cases d
  · show firstRow k + 1 * a.val = 128 * k.val + a.val
    rw [firstRow_eq]
    omega
  · show g.val + 1 * 0 = g.val
    omega

theorem stageRect_emb (g : Fin 64) (a b : Fin 128) : (stageRect g).emb (ix2 a b) = ix2 a (column g b) := by
  funext d
  apply Fin.ext
  fin_cases d
  · show 0 + 1 * a.val = a.val
    omega
  · show 128 * g.val + 1 * b.val = 128 * g.val + b.val
    omega

/-- Every element of the weight lies in the tile of its trip and group. -/
theorem mem_tileRect (y : S2048x8192.Idx) (k : Fin k0_t1_loop.trips) (hk : k.val = (y 0).val / 128) :
    y ∈ (tileRect k (group (y 1))).set := by
  unfold tileRect
  rw [Rect.mem_set_unit]
  have h0 : (y 0).val < 2048 := (y 0).isLt
  have h1 : (y 1).val < 8192 := (y 1).isLt
  intro a
  fin_cases a
  · show firstRow k ≤ (y 0).val ∧ (y 0).val < firstRow k + 128
    rw [firstRow_eq]
    omega
  · show 128 * ((y 1).val / 128) ≤ (y 1).val ∧ (y 1).val < 128 * ((y 1).val / 128) + 128
    omega

/-- A buffer written whole reads what was written. -/
theorem canon_whole {e : EltTy} (d : S128x8192.Idx → Elt Ideal e) :
    View.canon [(⟨Rect.whole S128x8192, d⟩ : View.Piece (Elt Ideal) S128x8192 e)] = d := by
  funext y
  refine View.canon_apply_of_pieces d _ ?_ y ⟨_, List.mem_singleton.mpr rfl, ?_⟩
  · intro p hp x
    obtain rfl := List.mem_singleton.mp hp
    exact congrArg d (Rect.emb_whole_apply S128x8192 x).symm
  · rw [Rect.set_whole]
    exact Finset.mem_univ _

/-- One store of a trip: a tile of the weight, each row times its scale. -/
theorem tile_apply (s : Vec Ideal S128x1 .f32) (w : Vec Ideal S128x128 .fp8e4m3) (a b : Fin 128) :
    k0_pay2 s w (ix2 a b) = w (ix2 a b) * s (ix2 a 0) := by
  unfold k0_pay2
  rw [shapeCast_self]
  have hb : broadcastTo S128x128 s broadcasts_S128x1_S128x128 (ix2 a b) = s (ix2 a 0) := by
    refine broadcastTo_apply s _ _ (ix2 a 0) ?_
    intro d
    fin_cases d <;> simp
  rw [← hb]
  rfl

/-- The rows a trip copies into the staging buffer. -/
theorem staged_apply (i : grid0.Coords) (arg2 : Memref sig .tc .hbm S2048x8192 .fp8e4m3) (h : k0_cond1 i = 1#1)
    (X : BufTy.Contents (Elt Ideal) arg2.view.ty) (k : Fin k0_t1_loop.trips) (a : Fin 128) (b : Fin 8192) :
    trip_k0_t1.sl.dma0 i arg2 h X k (ix2 a b) = View.read (Elt Ideal) arg2.view X (ix2 (row k a) b) := by
  have he : (Rect.unit (s := S2048x8192) (k0_off1 k) S128x8192.size (k0_off1_inb i k h)).emb (ix2 a b) = ix2 (row k a) b := by
    funext d
    apply Fin.ext
    fin_cases d
    · show firstRow k + 1 * a.val = 128 * k.val + a.val
      rw [firstRow_eq]
      omega
    · show 0 + 1 * b.val = b.val
      omega
  rw [← he]
  rfl

/-- **All the stores of the first `n` trips hold the weight times its scales, and cover the rows of those trips.** -/
theorem trips_pieces (𝒱 : Variants) (c : Dev nD) (bd : Option 𝒱.V) (i : grid0.Coords) (arg1 : Memref sig .tc .vmem S256x8192 .bf16) (harg1 : arg1.IsWhole) (arg2 : Memref sig .tc .hbm S2048x8192 .fp8e4m3) (harg2 : arg2.IsWhole) (arg3 : Memref sig .tc .vmem S2048x64 .f32) (harg3 : arg3.IsWhole) (arg4 : Memref sig .tc .vmem S256x2048 .bf16) (harg4 : arg4.IsWhole) (arg5 : Memref sig .tc .vmem S256x8192 .fp8e4m3) (harg5 : arg5.IsWhole) (arg6 : Memref sig .tc .vmem S256x64 .f32) (harg6 : arg6.IsWhole) (arg7 : Memref sig .tc .vmem S128x8192 .fp8e4m3) (harg7 : arg7.IsWhole) (arg8 : Memref sig .tc .vmem S2048x8192 .bf16) (harg8 : arg8.IsWhole) (arg9 : Memref sig .tc .vmem S256x8192 .bf16) (harg9 : arg9.IsWhole) (arg10 : DmaSems sig S_) (k0_h1 : k0_cond1 i = 1#1) (X_arg3 : BufTy.Contents (Elt Ideal) arg3.view.ty) (X_arg2 : BufTy.Contents (Elt Ideal) arg2.view.ty)
    (w : Vec Ideal S2048x8192 .fp8e4m3) (s : Vec Ideal S2048x64 .f32) (hw : View.read (Elt Ideal) arg2.view X_arg2 = w)
    (hs : View.read (Elt Ideal) arg3.view X_arg3 = s) (n : ℕ) (hn : n ≤ k0_t1_loop.trips) :
    (∀ p ∈ pb_k0_t1 (F := Ideal) 𝒱 c bd i arg1 harg1 arg2 harg2 arg3 harg3 arg4 harg4 arg5 harg5 arg6 harg6 arg7 harg7 arg8 harg8 arg9 harg9 arg10 k0_h1 X_arg3 X_arg2 n, ∀ x, p.2 x = weight w s (p.1.emb x))
    ∧ ∀ y : S2048x8192.Idx, (y 0).val < 128 * n → ∃ p ∈ pb_k0_t1 (F := Ideal) 𝒱 c bd i arg1 harg1 arg2 harg2 arg3 harg3 arg4 harg4 arg5 harg5 arg6 harg6 arg7 harg7 arg8 harg8 arg9 harg9 arg10 k0_h1 X_arg3 X_arg2 n, y ∈ p.1.set := by
  induction n with
  | zero => exact ⟨fun p hp => absurd hp List.not_mem_nil, fun y hy => absurd hy (by omega)⟩
  | succ n ih =>
    obtain ⟨ih1, ih2⟩ := ih (by omega)
    have hpb := pb_k0_t1_succ (F := Ideal) 𝒱 c bd i arg1 harg1 arg2 harg2 arg3 harg3 arg4 harg4 arg5 harg5 arg6 harg6 arg7 harg7 arg8 harg8 arg9 harg9 arg10 k0_h1 X_arg3 X_arg2 ⟨n, hn⟩
    rw [trip_pieces] at hpb
    refine ⟨fun p hp x => ?_, fun y hy => ?_⟩
    · rw [hpb] at hp
      rcases List.mem_append.mp hp with hp | hp
      · obtain ⟨g, -, rfl⟩ := List.mem_map.mp hp
        obtain ⟨a, b, rfl⟩ : ∃ a b : Fin 128, x = ix2 a b := ⟨x 0, x 1, eq_ix2 x⟩
        show k0_pay2 (F := Ideal) _ _ (ix2 a b) = weight w s ((tileRect ⟨n, hn⟩ g).emb (ix2 a b))
        rw [tileRect_emb]
        refine (tile_apply _ _ a b).trans ?_
        rw [View.readCov_eq_canon', canon_whole, View.readAt_eq_ld, hs]
        show trip_k0_t1.sl.dma0 i arg2 k0_h1 X_arg2 ⟨n, hn⟩ ((stageRect g).emb (ix2 a b)) * s ((factorRect ⟨n, hn⟩ g).emb (ix2 a 0))
          = w (ix2 (row ⟨n, hn⟩ a) (column g b)) * s (ix2 (row ⟨n, hn⟩ a) (group (column g b)))
        rw [stageRect_emb, factorRect_emb, staged_apply, hw, group_column]
      · exact ih1 p hp x
    · rw [hpb]
      by_cases h : (y 0).val < 128 * n
      · obtain ⟨p, hp, hy⟩ := ih2 y h
        exact ⟨p, List.mem_append_right _ hp, hy⟩
      · refine ⟨_, List.mem_append_left _ (List.mem_map.mpr ⟨group (y 1), List.mem_reverse.mpr (List.mem_finRange _), rfl⟩), ?_⟩
        exact mem_tileRect y ⟨n, hn⟩ (by show n = (y 0).val / 128; omega)

/-- **The scratch after the first grid point holds the weight times its scales.** -/
theorem weight_block (c : Dev nD) (i : grid0.Coords) (arg1 : Memref sig .tc .vmem S256x8192 .bf16) (harg1 : arg1.IsWhole) (arg3 : Memref sig .tc .vmem S2048x64 .f32) (harg3 : arg3.IsWhole) (arg4 : Memref sig .tc .vmem S256x2048 .bf16) (harg4 : arg4.IsWhole) (arg5 : Memref sig .tc .vmem S256x8192 .fp8e4m3) (harg5 : arg5.IsWhole) (arg6 : Memref sig .tc .vmem S256x64 .f32) (harg6 : arg6.IsWhole) (arg7 : Memref sig .tc .vmem S128x8192 .fp8e4m3) (harg7 : arg7.IsWhole) (arg8 : Memref sig .tc .vmem S2048x8192 .bf16) (harg8 : arg8.IsWhole) (arg9 : Memref sig .tc .vmem S256x8192 .bf16) (harg9 : arg9.IsWhole) (hc0 : cond0_0 i)
    (x0 : Vec Ideal S256x8192 .bf16) (x1 : Vec Ideal S2048x64 .f32) (fh0 : HbBuf0 (F := Ideal) c hbM0_0) :
    sout0_A_1 c i arg1 harg1 arg3 harg3 arg4 harg4 arg5 harg5 arg6 harg6 arg7 harg7 arg8 harg8 arg9 harg9 hc0 x0 x1 fh0 = weight (View.read (Elt Ideal) (Memref.whole main_arg1).view fh0) x1 := by
  unfold sout0_A_1
  rw [View.read_writes_junk_eq_canon]
  have h := trips_pieces Variants.none c none i arg1 harg1 (Memref.whole main_arg1) (Memref.isWhole_whole _) arg3 harg3 arg4 harg4 arg5 harg5 arg6 harg6
    arg7 harg7 arg8 harg8 arg9 harg9 cc0_scratch3 hc0 (harg3.unread x1) fh0 _ x1 rfl (harg3.read_unread x1) k0_t1_loop.trips (le_refl _)
  have hL : (kernelRun0_A c i arg1 harg1 arg3 harg3 arg4 harg4 arg5 harg5 arg6 harg6 arg7 harg7 arg8 harg8 arg9 harg9 hc0 x0 x1 fh0).2.2.2.1 = pb_k0_t1 (F := Ideal) Variants.none c none i arg1 harg1 (Memref.whole main_arg1)
      (Memref.isWhole_whole _) arg3 harg3 arg4 harg4 arg5 harg5 arg6 harg6 arg7 harg7 arg8 harg8 arg9 harg9 cc0_scratch3 hc0 (harg3.unread x1) fh0
      k0_t1_loop.trips := rfl
  rw [hL]
  funext y
  have hy : (y 0).val < 2048 := (y 0).isLt
  exact View.canon_apply_of_pieces _ _ h.1 y (h.2 y (by rw [trips_eq]; omega))

end Cert.KernelIdeal.Hand

end
-- ==== Proof.Rows.lean ====
/- A block of rows of a matrix, and the quantiser on it: scales, codes and product of a block of rows are the same rows of
   the scales, codes and product of the whole matrix. -/
module

public import proofs.«01_k».proof.Proof.Spec

@[expose] public section

noncomputable section

namespace Cert.Quant

open Idealize.ShloMosaic Idealize.ShloMosaic.ValueIdx

variable {m M n : ℕ} (scale inv : EReal → EReal)

/-- The rows of `x` that `f` selects. -/
def rows (f : Fin m → Fin M) (x : Mat M 8192) : Mat m 8192 := fun y => x (ix2 (f (y 0)) (y 1))

/-- The threshold of a selected row is that row's. -/
theorem rowThreshold_rows (f : Fin m → Fin M) (x : Mat M 8192) (r : Fin m) (g : Fin 64) :
    rowThreshold (rows f x) r g = rowThreshold x (f r) g := rfl

/-- The scales of selected rows are those rows' scales. -/
theorem scales_rows (f : Fin m → Fin M) (x : Mat M 8192) (r : Fin m) (k : Fin 64) :
    scales scale (rows f x) (ix2 r k) = scales scale x (ix2 (f r) k) := rfl

/-- The codes of selected rows are those rows' codes. -/
theorem codes_rows (f : Fin m → Fin M) (x : Mat M 8192) (r : Fin m) (k : Fin 8192) :
    codes inv (rows f x) (ix2 r k) = codes inv x (ix2 (f r) k) := rfl

/-- The product of selected rows is those rows of the product. -/
theorem product_rows (f : Fin m → Fin M) (x : Mat M 8192) (ww : Mat n 8192) (r : Fin m) (k : Fin n) :
    product scale inv (rows f x) ww (ix2 r k) = product scale inv x ww (ix2 (f r) k) := rfl

end Cert.Quant

end
-- ==== Proof.Arrays.lean ====
/- The three result arrays of the kernel, whole: every grid point works on 256 rows of dy and on the weight times its
   scales, which the first point leaves in the scratch and no later point changes. -/
module

public import proofs.«01_k».proof.Proof.Gen.KernelIdeal.Value
public import proofs.«01_k».proof.Proof.BlockValue
public import proofs.«01_k».proof.Proof.Weight
public import proofs.«01_k».proof.Proof.Rows

@[expose] public section

noncomputable section

namespace Cert.KernelIdeal.Hand

open Cert.KernelIdeal Cert.KernelIdeal.Gen Cert.KernelIdeal.Value Cert.Quant
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The row of dy at row `r` of grid point `t`'s block. -/
def rowAt (t : Fin cfg0.N) (r : Fin 256) : Fin 24576 :=
  ⟨256 * t.val + r.val, by have h := t.isLt; have hN : cfg0.N = 96 := N_0; omega⟩

/-- dy as a matrix of 24576 rows, as the grid finds it. -/
abbrev dyRows (c : Dev nD) : Mat 24576 8192 := V m c main_v0

/-- The weight times its scales. -/
abbrev wideWeight (c : Dev nD) : Mat 2048 8192 := weight (V m c main_arg1 : Mat 2048 8192) (V m c main_arg2 : Mat 2048 64)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = t.val ∧ win0_3.index t 1 = 0 :=
  (by decide +kernel : ∀ t : Fin grid0.N, win0_3.index t 0 = t.val ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)

/-- A grid point's block of dy: its 256 rows. -/
theorem dy_block (c : Dev nD) (t : Fin cfg0.N) : (iblk m c 0 t : Mat 256 8192) = rows (rowAt t) (dyRows m c) := by
  funext j
  unfold iblk rows
  rw [View.read_apply]
  show V m c main_v0 _ = V m c main_v0 _
  congr 1
  funext a
  apply Fin.ext
  match a with
  | ⟨0, _⟩ => show win0_0.index t 0 * 256 + 1 * (j 0).val = 256 * t.val + (j 0).val; rw [(index0 t).1]; omega
  | ⟨1, _⟩ => show win0_0.index t 1 * 8192 + 1 * (j 1).val = (j 1).val; rw [(index0 t).2]; omega

/-- Every grid point's block of the weight's scales is the whole array. -/
theorem scales_block (c : Dev nD) (t : Fin cfg0.N) : (iblk m c 1 t : Mat 2048 64) = V m c main_arg2 := by
  funext j
  unfold iblk
  rw [View.read_apply]
  show V m c main_arg2 _ = V m c main_arg2 _
  congr 1
  funext a
  apply Fin.ext
  match a with
  | ⟨0, _⟩ => show win0_1.index t 0 * 2048 + 1 * (j 0).val = (j 0).val; rw [(index1 t).1]; omega
  | ⟨1, _⟩ => show win0_1.index t 1 * 64 + 1 * (j 1).val = (j 1).val; rw [(index1 t).2]; omega

/-- The weight read whole is the weight. -/
theorem read_weight (w : (main_arg1.ty.shape).Idx → Elt Ideal main_arg1.ty.elt) :
    View.read (Elt Ideal) (Memref.whole main_arg1).view w = w := by
  funext j; rw [View.read_apply]; rfl

/-- What the first point leaves in the scratch. -/
theorem scratch_first (c : Dev nD) (t : Fin cfg0.N) (h0 : t.val % 96 = 0) :
    (outsAt0 m c t.val t.isLt).2.2.2 = wideWeight m c := by
  rw [outsAt0_A m c t h0]
  dsimp only
  rw [weight_block, read_weight, scales_block]

/-- What a later point leaves in the scratch: what it found there. -/
theorem scratch_later (c : Dev nD) (t : Fin cfg0.N) (h0 : ¬t.val % 96 = 0) (hp : t.val - 1 < cfg0.N) :
    (outsAt0 m c t.val t.isLt).2.2.2 = (outsAt0 m c (t.val - 1) hp).2.2.2 := by
  rw [outsAt0_B m c t h0]
  dsimp only
  unfold sout0_B_1
  rfl

/-- The scratch holds the weight times its scales after every point: the first point writes it, the others keep it. -/
theorem scratch (c : Dev nD) (n : ℕ) : ∀ h : n < cfg0.N, (outsAt0 m c n h).2.2.2 = wideWeight m c := by
  have hN : cfg0.N = 96 := N_0
  induction n with
  | zero => exact fun h => scratch_first m c ⟨0, h⟩ (Nat.zero_mod 96)
  | succ n ih =>
    intro h
    have hB : ¬(⟨n + 1, h⟩ : Fin cfg0.N).val % 96 = 0 := by dsimp only; omega
    exact (scratch_later m c ⟨n + 1, h⟩ hB (Nat.lt_of_succ_lt h)).trans (ih (Nat.lt_of_succ_lt h))

/-- The product block of every point. -/
theorem product_point (c : Dev nD) (t : Fin cfg0.N) :
    (outsAt0 m c t.val t.isLt).1 = product kernelScale kernelInv (rows (rowAt t) (dyRows m c)) (wideWeight m c) := by
  by_cases h0 : t.val % 96 = 0
  · have hs := scratch m c t.val t.isLt
    rw [outsAt0_A m c t h0] at hs ⊢
    dsimp only at hs ⊢
    rw [dx_block_A, hs, dx_value, dy_block]
  · rw [outsAt0_B m c t h0]
    dsimp only
    rw [dx_block_B, scratch, dx_value, dy_block]

/-- The codes block of every point. -/
theorem codes_point (c : Dev nD) (t : Fin cfg0.N) :
    (outsAt0 m c t.val t.isLt).2.1 = codes kernelInv (rows (rowAt t) (dyRows m c)) := by
  by_cases h0 : t.val % 96 = 0
  · rw [outsAt0_A m c t h0]
    dsimp only
    rw [codes_block_A, codes_value, dy_block]
  · rw [outsAt0_B m c t h0]
    dsimp only
    rw [codes_block_B, codes_value, dy_block]

/-- The scales block of every point. -/
theorem scales_point (c : Dev nD) (t : Fin cfg0.N) :
    (outsAt0 m c t.val t.isLt).2.2.1 = scales kernelScale (rows (rowAt t) (dyRows m c)) := by
  by_cases h0 : t.val % 96 = 0
  · rw [outsAt0_A m c t h0]
    dsimp only
    rw [scale_block_A, scales_value, dy_block]
  · rw [outsAt0_B m c t h0]
    dsimp only
    rw [scale_block_B, scales_value, dy_block]

/-- The point whose block holds row `r`. -/
def pointOf (r : Fin 24576) : Fin cfg0.N := ⟨r.val / 256, by have hN : cfg0.N = 96 := N_0; omega⟩

/-- A block of the product is the rows of the array that grid point `t` works on. -/
theorem block2 (t : Fin cfg0.N) (d : Mat 256 2048) (G : Mat 24576 2048) (h : ∀ r k, d (ix2 r k) = G (ix2 (rowAt t r) k)) :
    (cfg0.win 2).cut (grid0.coords t) d = ((cfg0.win 2).blk t).view.read (Elt Ideal) G := by
  funext j
  rw [View.read_apply]
  have h0 : (j 0).val < 256 := (j 0).isLt
  have h1 : (j 1).val < 2048 := (j 1).isLt
  refine Eq.trans (congrArg d ?_) ((h ⟨(j 0).val, h0⟩ ⟨(j 1).val, h1⟩).trans (congrArg G ?_))
  · funext a
    match a with
    | ⟨0, _⟩ => rfl
    | ⟨1, _⟩ => rfl
  · funext a
    apply Fin.ext
    match a with
    | ⟨0, _⟩ => show 256 * t.val + (j 0).val = win0_2.index t 0 * 256 + 1 * (j 0).val; rw [(index2 t).1]; omega
    | ⟨1, _⟩ => show (j 1).val = win0_2.index t 1 * 2048 + 1 * (j 1).val; rw [(index2 t).2]; omega

/-- A block of the codes is the rows of the array that grid point `t` works on. -/
theorem block3 (t : Fin cfg0.N) (d : Mat 256 8192) (G : Mat 24576 8192) (h : ∀ r k, d (ix2 r k) = G (ix2 (rowAt t r) k)) :
    (cfg0.win 3).cut (grid0.coords t) d = ((cfg0.win 3).blk t).view.read (Elt Ideal) G := by
  funext j
  rw [View.read_apply]
  have h0 : (j 0).val < 256 := (j 0).isLt
  have h1 : (j 1).val < 8192 := (j 1).isLt
  refine Eq.trans (congrArg d ?_) ((h ⟨(j 0).val, h0⟩ ⟨(j 1).val, h1⟩).trans (congrArg G ?_))
  · funext a
    match a with
    | ⟨0, _⟩ => rfl
    | ⟨1, _⟩ => rfl
  · funext a
    apply Fin.ext
    match a with
    | ⟨0, _⟩ => show 256 * t.val + (j 0).val = win0_3.index t 0 * 256 + 1 * (j 0).val; rw [(index3 t).1]; omega
    | ⟨1, _⟩ => show (j 1).val = win0_3.index t 1 * 8192 + 1 * (j 1).val; rw [(index3 t).2]; omega

/-- A block of the scales is the rows of the array that grid point `t` works on. -/
theorem block4 (t : Fin cfg0.N) (d : Mat 256 64) (G : Mat 24576 64) (h : ∀ r k, d (ix2 r k) = G (ix2 (rowAt t r) k)) :
    (cfg0.win 4).cut (grid0.coords t) d = ((cfg0.win 4).blk t).view.read (Elt Ideal) G := by
  funext j
  rw [View.read_apply]
  have h0 : (j 0).val < 256 := (j 0).isLt
  have h1 : (j 1).val < 64 := (j 1).isLt
  refine Eq.trans (congrArg d ?_) ((h ⟨(j 0).val, h0⟩ ⟨(j 1).val, h1⟩).trans (congrArg G ?_))
  · funext a
    match a with
    | ⟨0, _⟩ => rfl
    | ⟨1, _⟩ => rfl
  · funext a
    apply Fin.ext
    match a with
    | ⟨0, _⟩ => show 256 * t.val + (j 0).val = win0_4.index t 0 * 256 + 1 * (j 0).val; rw [(index4 t).1]; omega
    | ⟨1, _⟩ => show (j 1).val = win0_4.index t 1 * 64 + 1 * (j 1).val; rw [(index4 t).2]; omega

/-- What a point writes back of the product is its block of the whole. -/
theorem product_flushed (c : Dev nD) (t : Fin cfg0.N) :
    (dats m 0 c).flushed 2 t = ((cfg0.win 2).blk t).view.read (Elt Ideal) (product kernelScale kernelInv (dyRows m c) (wideWeight m c)) := by
  rw [flushed2, product_point]
  exact block2 t _ _ fun r k => product_rows ..

/-- What a point writes back of the codes is its block of the whole. -/
theorem codes_flushed (c : Dev nD) (t : Fin cfg0.N) :
    (dats m 0 c).flushed 3 t = ((cfg0.win 3).blk t).view.read (Elt Ideal) (codes kernelInv (dyRows m c)) := by
  rw [flushed3, codes_point]
  exact block3 t _ _ fun r k => codes_rows ..

/-- What a point writes back of the scales is its block of the whole. -/
theorem scales_flushed (c : Dev nD) (t : Fin cfg0.N) :
    (dats m 0 c).flushed 4 t = ((cfg0.win 4).blk t).view.read (Elt Ideal) (scales kernelScale (dyRows m c)) := by
  rw [flushed4, scales_point]
  exact block4 t _ _ fun r k => scales_rows ..

/-- The product array after the run. -/
theorem product_final (c : Dev nD) :
    (dats m 0 c).arrAt 2 cfg0.N = product kernelScale kernelInv (dyRows m c) (wideWeight m c) :=
  (dats m 0 c).arrAt_eq_of_cover 2 _ (fun t _ => product_flushed m c t) fun i =>
    ⟨pointOf (i 0), flush0_2 _, by
      show i ∈ ((View.whole main_v1_0).slice (win0_2.rect (pointOf (i 0)))).set
      rw [View.set_slice_whole, Rect.mem_set_unit]
      intro a
      have h0 : (i 0 : Nat) < 24576 := (i 0).isLt
      have h1 : (i 1 : Nat) < 2048 := (i 1).isLt
      have e0 : win0_2.index (pointOf (i 0)) 0 = (i 0 : Nat) / 256 := (index2 (pointOf (i 0))).1
      have e1 := (index2 (pointOf (i 0))).2
      match a with
      | ⟨0, _⟩ => show win0_2.index (pointOf (i 0)) 0 * 256 ≤ (i 0 : Nat) ∧ (i 0 : Nat) < win0_2.index (pointOf (i 0)) 0 * 256 + 256
                  rw [e0]; omega
      | ⟨1, _⟩ => show win0_2.index (pointOf (i 0)) 1 * 2048 ≤ (i 1 : Nat) ∧ (i 1 : Nat) < win0_2.index (pointOf (i 0)) 1 * 2048 + 2048
                  rw [e1]; omega⟩

/-- The codes array after the run. -/
theorem codes_final (c : Dev nD) : (dats m 0 c).arrAt 3 cfg0.N = codes kernelInv (dyRows m c) :=
  (dats m 0 c).arrAt_eq_of_cover 3 _ (fun t _ => codes_flushed m c t) fun i =>
    ⟨pointOf (i 0), flush0_3 _, by
      show i ∈ ((View.whole main_v1_1).slice (win0_3.rect (pointOf (i 0)))).set
      rw [View.set_slice_whole, Rect.mem_set_unit]
      intro a
      have h0 : (i 0 : Nat) < 24576 := (i 0).isLt
      have h1 : (i 1 : Nat) < 8192 := (i 1).isLt
      have e0 : win0_3.index (pointOf (i 0)) 0 = (i 0 : Nat) / 256 := (index3 (pointOf (i 0))).1
      have e1 := (index3 (pointOf (i 0))).2
      match a with
      | ⟨0, _⟩ => show win0_3.index (pointOf (i 0)) 0 * 256 ≤ (i 0 : Nat) ∧ (i 0 : Nat) < win0_3.index (pointOf (i 0)) 0 * 256 + 256
                  rw [e0]; omega
      | ⟨1, _⟩ => show win0_3.index (pointOf (i 0)) 1 * 8192 ≤ (i 1 : Nat) ∧ (i 1 : Nat) < win0_3.index (pointOf (i 0)) 1 * 8192 + 8192
                  rw [e1]; omega⟩

/-- The scales array after the run. -/
theorem scales_final (c : Dev nD) : (dats m 0 c).arrAt 4 cfg0.N = scales kernelScale (dyRows m c) :=
  (dats m 0 c).arrAt_eq_of_cover 4 _ (fun t _ => scales_flushed m c t) fun i =>
    ⟨pointOf (i 0), flush0_4 _, by
      show i ∈ ((View.whole main_v1_2).slice (win0_4.rect (pointOf (i 0)))).set
      rw [View.set_slice_whole, Rect.mem_set_unit]
      intro a
      have h0 : (i 0 : Nat) < 24576 := (i 0).isLt
      have h1 : (i 1 : Nat) < 64 := (i 1).isLt
      have e0 : win0_4.index (pointOf (i 0)) 0 = (i 0 : Nat) / 256 := (index4 (pointOf (i 0))).1
      have e1 := (index4 (pointOf (i 0))).2
      match a with
      | ⟨0, _⟩ => show win0_4.index (pointOf (i 0)) 0 * 256 ≤ (i 0 : Nat) ∧ (i 0 : Nat) < win0_4.index (pointOf (i 0)) 0 * 256 + 256
                  rw [e0]; omega
      | ⟨1, _⟩ => show win0_4.index (pointOf (i 0)) 1 * 64 ≤ (i 1 : Nat) ∧ (i 1 : Nat) < win0_4.index (pointOf (i 0)) 1 * 64 + 64
                  rw [e1]; omega⟩

end Cert.KernelIdeal.Hand

end
-- ==== Proof.Reference.lean ====
/- What the reference computes of its three arguments, over the extended reals: the scales, the codes and the product of
   Spec.lean, with the reference's own scale and inverse scale. -/
module

public import proofs.«01_k».proof.Proof.Spec
public import proofs.«01_k».proof.Proof.Gen.ReferenceIdeal.Frame
public import Idealize.ShloMosaic.Lib.Pipeline.Value
public import Idealize.ShloMosaic.Lib.MatmulPlain

@[expose] public section

noncomputable section

namespace Cert.ReferenceIdeal.Hand

open Cert.ReferenceIdeal Cert.ReferenceIdeal.Gen Cert.Quant Idealize.ShloMosaic Idealize.ShloMosaic.TcCoe
open ValueIdx

/-- A matrix of 8192 columns viewed as 64 groups of 128. -/
theorem cast_groups {α : Type} {n : ℕ} (v : (⟨2, ![n, 8192]⟩ : Shape).Idx → α)
    (h : (⟨2, ![n, 8192]⟩ : Shape).ShapeCasts ⟨3, ![n, 64, 128]⟩) (r : Fin n) (g : Fin 64) (j : Fin 128) :
    shapeCast ⟨3, ![n, 64, 128]⟩ v h (ix3 r g j) = v (ix2 r (column g j)) := by
  refine shapeCast_apply v _ _ _ ?_
  rw [Shape.rowMajor_val_two, Shape.rowMajor_val_three]
  show r.val * 8192 + (128 * g.val + j.val) = (r.val * 64 + g.val) * 128 + j.val
  ring

/-- 64 groups of 128 columns viewed as 8192 columns. -/
theorem cast_columns {α : Type} {n : ℕ} (v : (⟨3, ![n, 64, 128]⟩ : Shape).Idx → α)
    (h : (⟨3, ![n, 64, 128]⟩ : Shape).ShapeCasts ⟨2, ![n, 8192]⟩) (r : Fin n) (g : Fin 64) (j : Fin 128) :
    shapeCast ⟨2, ![n, 8192]⟩ v h (ix2 r (column g j)) = v (ix3 r g j) := by
  refine shapeCast_apply v _ _ _ ?_
  rw [Shape.rowMajor_val_two, Shape.rowMajor_val_three]
  show (r.val * 64 + g.val) * 128 + j.val = r.val * 8192 + (128 * g.val + j.val)
  ring

/-- One value per row and group, repeated along the group's columns. -/
theorem spread_group {α : Type} {n : ℕ} (hn : n ≠ 1) (v : (⟨2, ![n, 64]⟩ : Shape).Idx → α)
    (h : (⟨2, ![n, 64]⟩ : Shape).ShapeCasts ⟨3, ![n, 64, 1]⟩) (h' : (⟨3, ![n, 64, 1]⟩ : Shape).Broadcasts ⟨3, ![n, 64, 128]⟩)
    (r : Fin n) (g : Fin 64) (j : Fin 128) :
    broadcastTo ⟨3, ![n, 64, 128]⟩ (shapeCast ⟨3, ![n, 64, 1]⟩ v h) h' (ix3 r g j) = v (ix2 r g) := by
  refine (broadcastTo_apply _ _ _ (ix3 r g 0) ?_).trans ?_
  · intro a
    fin_cases a <;> simp [hn]
  · refine shapeCast_apply v _ _ _ ?_
    rw [Shape.rowMajor_val_two, Shape.rowMajor_val_three]
    show r.val * 64 + g.val = (r.val * 64 + g.val) * 1 + 0
    ring

/-- Every column is a group and a place in it. -/
theorem exists_column (k : Fin 8192) : ∃ g j, k = column g j :=
  ⟨group k, ⟨k.val % 128, Nat.mod_lt _ (by omega)⟩, Fin.ext (Nat.div_add_mod _ _).symm⟩

section Groups

variable (x : Vec Ideal S24576x8192 .bf16)

/-- The argument in groups. -/
theorem grouped_apply (r : Fin 24576) (g : Fin 64) (j : Fin 128) : k0_pay2 x (ix3 r g j) = x (ix2 r (column g j)) := by
  unfold k0_pay2
  refine (cast_groups _ _ r g j).trans ?_
  rw [shapeCast_self]
  rfl

end Groups

section Rows

/-! The reference's lines on one array in groups, for any number of rows. -/

variable {n : ℕ} (v : FVec Ideal ⟨3, ![n, 64, 128]⟩ .f32) (t : FVec Ideal ⟨2, ![n, 64]⟩ .f32)

/-- The greatest magnitude of each row of each group. -/
theorem group_max (h : (⟨3, ![n, 64, 128]⟩ : Shape).Reduces [2] ⟨2, ![n, 64]⟩) (h' h'') (r : Fin n) (g : Fin 64) :
    multiReduction (F := Ideal) .maximumf [2] ⟨2, ![n, 64]⟩ (absf v) 0xFF800000#32 h h' h'' (ix2 r g)
      = (Finset.univ : Finset (Fin 128)).fold max ⊥ fun j => max (v (ix3 r g j)) (-v (ix3 r g j)) := by
  rw [Ideal.multiReduction_maximumf_single]
  have hb : (FloatOps.ofBits (F := Ideal) .f32 0xFF800000#32) = (⊥ : EReal) := by
    show Ideal.ofBits .f32 _ = _
    simp [Ideal.ofBits, Ideal.ieee]
  rw [hb]
  refine congrArg (fun f => Finset.fold max ⊥ f Finset.univ) (funext fun (j : Fin 128) => ?_)
  have hl : h.lift (ix2 r g) j = ix3 r g j := by
    funext a
    fin_cases a <;> rfl
  show max (v (h.lift (ix2 r g) j)) (-v (h.lift (ix2 r g) j)) = _
  rw [hl]

/-- The threshold of each row of each group. -/
theorem group_threshold (h : (⟨3, ![n, 64, 128]⟩ : Shape).Reduces [2] ⟨2, ![n, 64]⟩) (h' h'') (r : Fin n) (g : Fin 64) :
    mulf (multiReduction (F := Ideal) .maximumf [2] ⟨2, ![n, 64]⟩ (absf v) 0xFF800000#32 h h' h'')
      (broadcast ⟨2, ![n, 64]⟩ (Scalar.ofBits .f32 0x3B124925#32)) (ix2 r g) = threshold fun j => v (ix3 r g j) := by
  unfold threshold
  rw [← group_max v h h' h'' r g]
  rfl

/-- The exponents of an array of thresholds. -/
def exponents : FVec Ideal ⟨2, ![n, 64]⟩ .f32 :=
  select (ori (cmpf .olt t (broadcast ⟨2, ![n, 64]⟩ (Scalar.ofBits .f32 0x00800000#32)))
      (cmpf .oeq t (broadcast ⟨2, ![n, 64]⟩ (Scalar.ofBits .f32 0x7F800000#32))))
    (broadcast ⟨2, ![n, 64]⟩ (Scalar.ofBits .f32 0x00000000#32))
    (addf (floor (divf (log t) (broadcast ⟨2, ![n, 64]⟩ (Scalar.log (Scalar.ofBits .f32 0x40000000#32)))))
      (broadcast ⟨2, ![n, 64]⟩ (Scalar.ofBits .f32 0x3F800000#32)))

theorem exponents_apply (y : (⟨2, ![n, 64]⟩ : Shape).Idx) : exponents t y = exponent (t y) := rfl

theorem scale_of_exponent (y : (⟨2, ![n, 64]⟩ : Shape).Idx) : exp2 (exponents t) y = refScale (t y) := rfl

theorem inv_of_exponent (y : (⟨2, ![n, 64]⟩ : Shape).Idx) :
    exp2 (subf (broadcast ⟨2, ![n, 64]⟩ (Scalar.ofBits .f32 0x00000000#32)) (exponents t)) y = refInv (t y) := rfl

/-- The codes of an array in groups, from one inverse scale per row and group. -/
theorem codes_of_inv (hn : n ≠ 1) (i : FVec Ideal ⟨2, ![n, 64]⟩ .f32) (h : (⟨2, ![n, 64]⟩ : Shape).ShapeCasts ⟨3, ![n, 64, 1]⟩)
    (h' : (⟨3, ![n, 64, 1]⟩ : Shape).Broadcasts ⟨3, ![n, 64, 128]⟩) (hb) (r : Fin n) (g : Fin 64) (j : Fin 128) :
    truncf (F := Ideal) .fp8e4m3 (minimumf (broadcast ⟨3, ![n, 64, 128]⟩ (Scalar.ofBits (F := Ideal) .f32 0x43E00000#32))
      (maximumf (broadcast ⟨3, ![n, 64, 128]⟩ (Scalar.ofBits (F := Ideal) .f32 0xC3E00000#32))
        (mulf v (broadcastTo ⟨3, ![n, 64, 128]⟩ (shapeCast ⟨3, ![n, 64, 1]⟩ i h) h')))) hb (ix3 r g j)
      = code (v (ix3 r g j)) (i (ix2 r g)) := by
  rw [← spread_group hn i h h' r g j]
  rfl

/-- An array in groups times one factor per row and group. -/
theorem times_group (hn : n ≠ 1) (c : FVec Ideal ⟨3, ![n, 64, 128]⟩ .bf16) (f : FVec Ideal ⟨2, ![n, 64]⟩ .bf16)
    (h : (⟨2, ![n, 64]⟩ : Shape).ShapeCasts ⟨3, ![n, 64, 1]⟩)
    (h' : (⟨3, ![n, 64, 1]⟩ : Shape).Broadcasts ⟨3, ![n, 64, 128]⟩) (r : Fin n) (g : Fin 64) (j : Fin 128) :
    mulf c (broadcastTo ⟨3, ![n, 64, 128]⟩ (shapeCast ⟨3, ![n, 64, 1]⟩ f h) h') (ix3 r g j) = c (ix3 r g j) * f (ix2 r g) := by
  rw [← spread_group hn f h h' r g j]
  rfl

end Rows

section Arrays

variable (x : Vec Ideal S24576x8192 .bf16)

/-- The reference's array of thresholds. -/
def thresholds : FVec Ideal S24576x64 .f32 :=
  mulf (multiReduction .maximumf [2] S24576x64 (absf (k0_pay2 x)) 0xFF800000#32 reduces_S24576x64x128_S24576x64 (.inl rfl) rfl)
    (broadcast S24576x64 (Scalar.ofBits .f32 0x3B124925#32))

theorem threshold_apply (r : Fin 24576) (g : Fin 64) : thresholds x (ix2 r g) = rowThreshold x r g := by
  unfold thresholds rowThreshold
  rw [show (fun j => x (ix2 r (column g j))) = fun j => k0_pay2 x (ix3 r g j) from funext fun j => (grouped_apply x r g j).symm]
  exact group_threshold (k0_pay2 x) _ _ _ r g

/-- The exponents of the reference. -/
theorem exponent_eq : k0_pay3 x = exponents (thresholds x) := by
  unfold k0_pay3 thresholds exponents
  rfl

/-- The scales of the reference. -/
theorem scale_apply (r : Fin 24576) (g : Fin 64) : k0_pay4 x (ix2 r g) = refScale (rowThreshold x r g) := by
  unfold k0_pay4
  rw [exponent_eq, ← threshold_apply]
  exact scale_of_exponent _ _

/-- The codes of the reference, in groups. -/
theorem codes_apply (r : Fin 24576) (g : Fin 64) (j : Fin 128) :
    k0_pay5 x (ix3 r g j) = code (x (ix2 r (column g j))) (refInv (rowThreshold x r g)) := by
  unfold k0_pay5
  rw [exponent_eq]
  refine (codes_of_inv _ (by omega) _ _ _ _ r g j).trans ?_
  rw [grouped_apply, inv_of_exponent, threshold_apply]

/-- The codes of the reference times their scales, in groups. -/
theorem wide_apply (r : Fin 24576) (g : Fin 64) (j : Fin 128) :
    k0_pay7 x (ix3 r g j) = code (x (ix2 r (column g j))) (refInv (rowThreshold x r g)) * refScale (rowThreshold x r g) := by
  rw [← codes_apply, ← scale_apply]
  unfold k0_pay7
  exact times_group (by omega) _ _ _ _ r g j

/-- The whole array as the reference's one store leaves it. -/
theorem corner : (![0, 0] : Fin 2 → Nat) = fun _ => 0 := by funext a; fin_cases a <;> rfl

/-- The scales array of the reference. -/
theorem scales_array (w : Vec Ideal S2048x8192 .fp8e4m3) (s : Vec Ideal S2048x64 .f32) :
    out0_5 x w s = scales refScale x := by
  unfold out0_5
  rw [View.canon_unit_zero corner, View.ld_unit_zero corner]
  funext y
  obtain ⟨r, g, rfl⟩ : ∃ (r : Fin 24576) (g : Fin 64), y = ix2 r g := ⟨y 0, y 1, eq_ix2 y⟩
  exact scale_apply x r g

/-- The codes array of the reference. -/
theorem codes_array (w : Vec Ideal S2048x8192 .fp8e4m3) (s : Vec Ideal S2048x64 .f32) :
    out0_4 x w s = codes refInv x := by
  unfold out0_4
  rw [View.canon_unit_zero corner, View.ld_unit_zero corner]
  funext y
  obtain ⟨r, k, rfl⟩ : ∃ (r : Fin 24576) (k : Fin 8192), y = ix2 r k := ⟨y 0, y 1, eq_ix2 y⟩
  obtain ⟨g, j, rfl⟩ := exists_column k
  unfold k0_pay6
  refine (cast_columns _ _ r g j).trans ?_
  rw [codes_apply]
  show _ = code _ (refInv (rowThreshold x r (group (column g j))))
  rw [group_column]

/-- The scaled codes of the reference as a matrix. -/
theorem scaled_apply (h : S24576x64x128.ShapeCasts S24576x8192) :
    shapeCast S24576x8192 (k0_pay7 x) h = scaled refScale refInv x := by
  funext y
  obtain ⟨r, k, rfl⟩ : ∃ (r : Fin 24576) (k : Fin 8192), y = ix2 r k := ⟨y 0, y 1, eq_ix2 y⟩
  obtain ⟨g, j, rfl⟩ := exists_column k
  refine (cast_columns _ _ r g j).trans ?_
  rw [wide_apply]
  show _ = code _ (refInv (rowThreshold x r (group (column g j)))) * refScale (rowThreshold x r (group (column g j)))
  rw [group_column]

/-- The scaled weight of the reference as a matrix. -/
theorem weight_apply (w : Vec Ideal S2048x8192 .fp8e4m3) (s : Vec Ideal S2048x64 .f32) :
    shapeCast S2048x8192 (mulf (F := Ideal) (φ := .bf16)
      (shapeCast S2048x64x128 (extf .bf16 w bitsLt_fp8e4m3_bf16) shapeCasts_S2048x8192_S2048x64x128)
      (broadcastTo S2048x64x128 (shapeCast S2048x64x1 (truncf .bf16 s bitsLt_bf16_f32) shapeCasts_S2048x64_S2048x64x1)
        broadcasts_S2048x64x1_S2048x64x128)) shapeCasts_S2048x64x128_S2048x8192 = weight w s := by
  funext y
  obtain ⟨c, k, rfl⟩ : ∃ (c : Fin 2048) (k : Fin 8192), y = ix2 c k := ⟨y 0, y 1, eq_ix2 y⟩
  obtain ⟨g, j, rfl⟩ := exists_column k
  refine (cast_columns _ _ c g j).trans ?_
  refine (times_group (by omega) _ _ _ _ c g j).trans ?_
  refine (congrArg (· * _) (cast_groups _ _ c g j)).trans ?_
  show w (ix2 c (column g j)) * s (ix2 c g) = w (ix2 c (column g j)) * s (ix2 c (group (column g j)))
  rw [group_column]

/-- The product array of the reference. -/
theorem product_array (w : Vec Ideal S2048x8192 .fp8e4m3) (s : Vec Ideal S2048x64 .f32) :
    out0_3 x w s = product refScale refInv x (weight w s) := by
  unfold out0_3
  rw [View.canon_unit_zero corner, View.ld_unit_zero corner, View.ld_unit_zero corner, View.ld_unit_zero corner]
  funext y
  obtain ⟨r, c, rfl⟩ : ∃ (r : Fin 24576) (c : Fin 2048), y = ix2 r c := ⟨y 0, y 1, eq_ix2 y⟩
  unfold k0_pay1
  rw [scaled_apply, weight_apply]
  have hd : dot_S24576x8192_S2048x8192_S24576x2048_1_1_0_0_n_n = DotDims.transposedRhs 24576 8192 2048 := rfl
  have h := Ideal.matmul_transposedRhs_apply (φ₁ := .bf16) (φ₂ := .bf16) none (scaled refScale refInv x) (weight w s)
    (constant (F := Ideal) S24576x2048 .f32 0x00000000#32) r c
  have h0 : constant (F := Ideal) S24576x2048 .f32 0x00000000#32 (ix2 r c) = 0 := Ideal.ofBits_zero_f32
  rw [h0, zero_add, ← hd] at h
  exact h

end Arrays

end Cert.ReferenceIdeal.Hand

end
-- ==== Proof.ReferenceArrays.lean ====
/- The three result arrays of the reference, whole: its one grid point works on the whole arrays. -/
module

public import proofs.«01_k».proof.Proof.Gen.ReferenceIdeal.Value
public import proofs.«01_k».proof.Proof.Reference

@[expose] public section

noncomputable section

namespace Cert.ReferenceIdeal.Hand

open Cert.ReferenceIdeal Cert.ReferenceIdeal.Gen Cert.ReferenceIdeal.Value Cert.Quant
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- dy as a matrix of 24576 rows, as the grid finds it. -/
abbrev dyRows (c : Dev nD) : Mat 24576 8192 := V m c main_v0

/-- The weight times its scales. -/
abbrev wideWeight (c : Dev nD) : Mat 2048 8192 := weight (V m c main_arg1 : Mat 2048 8192) (V m c main_arg2 : Mat 2048 64)

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)

/-- The grid point's block of dy is the whole array. -/
theorem whole0 (c : Dev nD) (t : Fin cfg0.N) : (iblk m c 0 t : Mat 24576 8192) = V m c main_v0 := by
  funext j
  unfold iblk
  rw [View.read_apply]
  show V m c main_v0 _ = V m c main_v0 _
  congr 1
  funext a
  apply Fin.ext
  match a with
  | ⟨0, _⟩ => show win0_0.index t 0 * 24576 + 1 * (j 0).val = (j 0).val; rw [(index0 t).1]; omega
  | ⟨1, _⟩ => show win0_0.index t 1 * 8192 + 1 * (j 1).val = (j 1).val; rw [(index0 t).2]; omega

/-- The grid point's block of the weight is the whole array. -/
theorem whole1 (c : Dev nD) (t : Fin cfg0.N) : (iblk m c 1 t : Mat 2048 8192) = V m c main_arg1 := by
  funext j
  unfold iblk
  rw [View.read_apply]
  show V m c main_arg1 _ = V m c main_arg1 _
  congr 1
  funext a
  apply Fin.ext
  match a with
  | ⟨0, _⟩ => show win0_1.index t 0 * 2048 + 1 * (j 0).val = (j 0).val; rw [(index1 t).1]; omega
  | ⟨1, _⟩ => show win0_1.index t 1 * 8192 + 1 * (j 1).val = (j 1).val; rw [(index1 t).2]; omega

/-- The grid point's block of the weight's scales is the whole array. -/
theorem whole2 (c : Dev nD) (t : Fin cfg0.N) : (iblk m c 2 t : Mat 2048 64) = V m c main_arg2 := by
  funext j
  unfold iblk
  rw [View.read_apply]
  show V m c main_arg2 _ = V m c main_arg2 _
  congr 1
  funext a
  apply Fin.ext
  match a with
  | ⟨0, _⟩ => show win0_2.index t 0 * 2048 + 1 * (j 0).val = (j 0).val; rw [(index2 t).1]; omega
  | ⟨1, _⟩ => show win0_2.index t 1 * 64 + 1 * (j 1).val = (j 1).val; rw [(index2 t).2]; omega

/-- The block of the product is the whole array. -/
theorem block3 (t : Fin cfg0.N) (G : Mat 24576 2048) :
    (cfg0.win 3).cut (grid0.coords t) G = ((cfg0.win 3).blk t).view.read (Elt Ideal) G := by
  funext j
  rw [View.read_apply]
  refine congrArg G ?_
  funext a
  apply Fin.ext
  match a with
  | ⟨0, _⟩ => show (j 0).val = win0_3.index t 0 * 24576 + 1 * (j 0).val; rw [(index3 t).1]; omega
  | ⟨1, _⟩ => show (j 1).val = win0_3.index t 1 * 2048 + 1 * (j 1).val; rw [(index3 t).2]; omega

/-- What the grid point writes back of the product. -/
theorem product_flushed (c : Dev nD) (t : Fin cfg0.N) :
    (dats m 0 c).flushed 3 t = ((cfg0.win 3).blk t).view.read (Elt Ideal) (product refScale refInv (dyRows m c) (wideWeight m c)) := by
  rw [flushed3, product_array, whole0, whole1, whole2]
  exact block3 t _

/-- The product array after the run. -/
theorem product_final (c : Dev nD) : (dats m 0 c).arrAt 3 cfg0.N = product refScale refInv (dyRows m c) (wideWeight m c) :=
  (dats m 0 c).arrAt_eq_of_cover 3 _ (fun t _ => product_flushed m c t) fun i =>
    ⟨t0_0, flush0_3 _, by
      show i ∈ ((View.whole main_v1_0).slice (win0_3.rect t0_0)).set
      rw [View.set_slice_whole, Rect.mem_set_unit]
      intro a
      have h0 : (i 0 : Nat) < 24576 := (i 0).isLt
      have h1 : (i 1 : Nat) < 2048 := (i 1).isLt
      match a with
      | ⟨0, _⟩ => show win0_3.index t0_0 0 * 24576 ≤ (i 0 : Nat) ∧ (i 0 : Nat) < win0_3.index t0_0 0 * 24576 + 24576
                  rw [(index3 t0_0).1]; omega
      | ⟨1, _⟩ => show win0_3.index t0_0 1 * 2048 ≤ (i 1 : Nat) ∧ (i 1 : Nat) < win0_3.index t0_0 1 * 2048 + 2048
                  rw [(index3 t0_0).2]; omega⟩

/-- The block of the codes is the whole array. -/
theorem block4 (t : Fin cfg0.N) (G : Mat 24576 8192) :
    (cfg0.win 4).cut (grid0.coords t) G = ((cfg0.win 4).blk t).view.read (Elt Ideal) G := by
  funext j
  rw [View.read_apply]
  refine congrArg G ?_
  funext a
  apply Fin.ext
  match a with
  | ⟨0, _⟩ => show (j 0).val = win0_4.index t 0 * 24576 + 1 * (j 0).val; rw [(index4 t).1]; omega
  | ⟨1, _⟩ => show (j 1).val = win0_4.index t 1 * 8192 + 1 * (j 1).val; rw [(index4 t).2]; omega

/-- What the grid point writes back of the codes. -/
theorem codes_flushed (c : Dev nD) (t : Fin cfg0.N) :
    (dats m 0 c).flushed 4 t = ((cfg0.win 4).blk t).view.read (Elt Ideal) (codes refInv (dyRows m c)) := by
  rw [flushed4, codes_array, whole0]
  exact block4 t _

/-- The codes array after the run. -/
theorem codes_final (c : Dev nD) : (dats m 0 c).arrAt 4 cfg0.N = codes refInv (dyRows m c) :=
  (dats m 0 c).arrAt_eq_of_cover 4 _ (fun t _ => codes_flushed m c t) fun i =>
    ⟨t0_0, flush0_4 _, by
      show i ∈ ((View.whole main_v1_1).slice (win0_4.rect t0_0)).set
      rw [View.set_slice_whole, Rect.mem_set_unit]
      intro a
      have h0 : (i 0 : Nat) < 24576 := (i 0).isLt
      have h1 : (i 1 : Nat) < 8192 := (i 1).isLt
      match a with
      | ⟨0, _⟩ => show win0_4.index t0_0 0 * 24576 ≤ (i 0 : Nat) ∧ (i 0 : Nat) < win0_4.index t0_0 0 * 24576 + 24576
                  rw [(index4 t0_0).1]; omega
      | ⟨1, _⟩ => show win0_4.index t0_0 1 * 8192 ≤ (i 1 : Nat) ∧ (i 1 : Nat) < win0_4.index t0_0 1 * 8192 + 8192
                  rw [(index4 t0_0).2]; omega⟩

/-- The block of the scales is the whole array. -/
theorem block5 (t : Fin cfg0.N) (G : Mat 24576 64) :
    (cfg0.win 5).cut (grid0.coords t) G = ((cfg0.win 5).blk t).view.read (Elt Ideal) G := by
  funext j
  rw [View.read_apply]
  refine congrArg G ?_
  funext a
  apply Fin.ext
  match a with
  | ⟨0, _⟩ => show (j 0).val = win0_5.index t 0 * 24576 + 1 * (j 0).val; rw [(index5 t).1]; omega
  | ⟨1, _⟩ => show (j 1).val = win0_5.index t 1 * 64 + 1 * (j 1).val; rw [(index5 t).2]; omega

/-- What the grid point writes back of the scales. -/
theorem scales_flushed (c : Dev nD) (t : Fin cfg0.N) :
    (dats m 0 c).flushed 5 t = ((cfg0.win 5).blk t).view.read (Elt Ideal) (scales refScale (dyRows m c)) := by
  rw [flushed5, scales_array, whole0]
  exact block5 t _

/-- The scales array after the run. -/
theorem scales_final (c : Dev nD) : (dats m 0 c).arrAt 5 cfg0.N = scales refScale (dyRows m c) :=
  (dats m 0 c).arrAt_eq_of_cover 5 _ (fun t _ => scales_flushed m c t) fun i =>
    ⟨t0_0, flush0_5 _, by
      show i ∈ ((View.whole main_v1_2).slice (win0_5.rect t0_0)).set
      rw [View.set_slice_whole, Rect.mem_set_unit]
      intro a
      have h0 : (i 0 : Nat) < 24576 := (i 0).isLt
      have h1 : (i 1 : Nat) < 64 := (i 1).isLt
      match a with
      | ⟨0, _⟩ => show win0_5.index t0_0 0 * 24576 ≤ (i 0 : Nat) ∧ (i 0 : Nat) < win0_5.index t0_0 0 * 24576 + 24576
                  rw [(index5 t0_0).1]; omega
      | ⟨1, _⟩ => show win0_5.index t0_0 1 * 64 ≤ (i 1 : Nat) ∧ (i 1 : Nat) < win0_5.index t0_0 1 * 64 + 64
                  rw [(index5 t0_0).2]; omega⟩

end Cert.ReferenceIdeal.Hand

end
-- ==== Proof.Exponent.lean ====
/- The kernel's scale and inverse scale of a threshold are the reference's, for every threshold that is nonnegative and
   either below 2^126 or infinite. -/
module

public import proofs.«01_k».proof.Proof.Slab
public import Mathlib.Analysis.SpecialFunctions.Pow.Real

@[expose] public section

noncomputable section

namespace Cert.KernelIdeal.Hand

open Cert.Quant Idealize.ShloMosaic

/-- The single-precision number of exponent field `j` and zero fraction. -/
def edge (j : ℕ) : EReal := Ideal.ofBits .f32 (IntOp.shli .vector (BitVec.ofNat 32 j) 23#32)

theorem edge_fields : ∀ j : Fin 256,
    (IntOp.shli .vector (BitVec.ofNat 32 j.val) 23#32).extractLsb' (8 + 23) 1 = 0#1
    ∧ ((IntOp.shli .vector (BitVec.ofNat 32 j.val) 23#32).extractLsb' 23 8).toNat = j.val
    ∧ ((IntOp.shli .vector (BitVec.ofNat 32 j.val) 23#32).extractLsb' 0 23).toNat = 0 := by decide +kernel

theorem number_toInt : ∀ j : Fin 256, (BitVec.ofNat 32 j.val).toInt = (j.val : ℤ) := by decide +kernel

theorem edge_zero : edge 0 = 0 := by
  have h : (IntOp.shli .vector (BitVec.ofNat 32 0) 23#32) = 0#32 := by decide +kernel
  unfold edge
  rw [h]
  exact Ideal.ofBits_zero_f32

/-- The value of a word with sign 0 and fraction 0. -/
theorem ofBits_fields (b : BitVec 32) (j : ℕ) (h1 : b.extractLsb' (8 + 23) 1 = 0#1) (h2 : (b.extractLsb' 23 8).toNat = j)
    (h3 : (b.extractLsb' 0 23).toNat = 0) :
    (j = 255 → Ideal.ofBits .f32 b = ⊤)
    ∧ (1 ≤ j → j ≤ 254 → Ideal.ofBits .f32 b = (((2 : ℝ) ^ ((j : ℤ) - 127) : ℝ) : EReal)) := by
  have hb : Ideal.ofBits .f32 b = Ideal.ieee 8 23 b := by simp only [Ideal.ofBits]
  rw [hb]
  unfold Ideal.ieee
  dsimp only
  rw [h1, h2, h3]
  constructor
  · rintro rfl
    simp
  · intro h h'
    rw [if_neg (by omega), if_neg (by omega)]
    congr 1
    have h4 : ((j : ℤ) - (2 ^ (8 - 1) - 1) - ((23 : ℕ) : ℤ)) = ((j : ℤ) - 127) + -23 := by norm_num; ring
    rw [h4, zpow_add₀ (by norm_num)]
    norm_num
    ring

theorem edge_top : edge 255 = ⊤ :=
  (ofBits_fields _ 255 (edge_fields 255).1 (edge_fields 255).2.1 (edge_fields 255).2.2).1 rfl

/-- A field from 1 to 254 gives a power of two. -/
theorem edge_pow (j : ℕ) (h : 1 ≤ j) (h' : j ≤ 254) : edge j = (((2 : ℝ) ^ ((j : ℤ) - 127) : ℝ) : EReal) := by
  obtain ⟨h1, h2, h3⟩ := edge_fields ⟨j, by omega⟩
  exact (ofBits_fields _ j h1 h2 h3).2 h h'

/-- The largest of finitely many values, when one of them bounds them all. -/
theorem fold_max_eq {k : ℕ} (f : Fin k → EReal) (i : Fin k) (h : ∀ j, f j ≤ f i) :
    (Finset.univ : Finset (Fin k)).fold max ⊥ f = f i :=
  le_antisymm (Finset.fold_max_le (f i) |>.mpr ⟨bot_le, fun j _ => h j⟩)
    (Finset.le_fold_max (f i) |>.mpr (Or.inr ⟨i, Finset.mem_univ i, le_rfl⟩))

/-- The field reached is the greatest one whose number the threshold reaches. -/
theorem fieldReached_eq (t : EReal) (k : Fin 256) (hk : edge k.val ≤ t) (h : ∀ j : Fin 256, edge j.val ≤ t → j.val ≤ k.val) :
    fieldReached t = BitVec.ofNat 32 k.val := by
  have hf : ∀ j : Fin 256, Scalar.select (Ideal.cmp .oge t (edge j.val)) (FloatOps.sitofp (F := Ideal) .f32 (BitVec.ofNat 32 j.val))
      (Ideal.ofBits .f32 0#32) = if edge j.val ≤ t then (((j.val : ℕ) : ℝ) : EReal) else 0 := by
    intro j
    have hs : FloatOps.sitofp (F := Ideal) .f32 (BitVec.ofNat 32 j.val) = (((j.val : ℕ) : ℝ) : EReal) := by
      show ((((BitVec.ofNat 32 j.val).toInt : ℤ) : ℝ) : EReal) = _
      rw [number_toInt]
      norm_cast
    rw [hs, Ideal.ofBits_zero_f32]
    by_cases hj : edge j.val ≤ t <;> simp [Scalar.select, Ideal.cmp, hj]
  have hv : fieldReached t = Ideal.fptosi 32 (((k.val : ℕ) : ℝ) : EReal) := by
    unfold fieldReached
    refine congrArg (Ideal.fptosi 32) ?_
    refine (fold_max_eq _ k fun j => ?_).trans ?_
    · show Scalar.select (Ideal.cmp .oge t (edge j.val)) _ _ ≤ Scalar.select (Ideal.cmp .oge t (edge k.val)) _ _
      rw [hf, hf, if_pos hk]
      split
      · rename_i hj
        exact_mod_cast h j hj
      · exact_mod_cast Nat.zero_le _
    · show Scalar.select (Ideal.cmp .oge t (edge k.val)) _ _ = _
      rw [hf, if_pos hk]
  rw [hv]
  unfold Ideal.fptosi
  rw [Ideal.toIntClamped_coe, if_pos (Nat.cast_nonneg _), Int.floor_natCast]
  have := k.isLt
  rw [min_eq_right (by norm_num; omega), max_eq_right (by norm_num)]
  simp

/-- The single-precision constants of the reference. -/
theorem smallest_normal : Ideal.ofBits .f32 0x00800000#32 = (((2 : ℝ) ^ (-126 : ℤ) : ℝ) : EReal) := by
  have h := edge_pow 1 (by omega) (by omega)
  rw [show edge 1 = Ideal.ofBits .f32 0x00800000#32 from by unfold edge; exact congrArg _ (by decide +kernel)] at h
  rw [h]; norm_num

theorem infinity : Ideal.ofBits .f32 0x7F800000#32 = ⊤ := by
  rw [← edge_top]; unfold edge; exact congrArg _ (by decide +kernel)

theorem two : Ideal.ofBits .f32 0x40000000#32 = ((2 : ℝ) : EReal) := by
  have h := edge_pow 128 (by omega) (by omega)
  rw [show edge 128 = Ideal.ofBits .f32 0x40000000#32 from by unfold edge; exact congrArg _ (by decide +kernel)] at h
  rw [h]; norm_num

theorem one : Ideal.ofBits .f32 0x3F800000#32 = ((1 : ℝ) : EReal) := by
  have h := edge_pow 127 (by omega) (by omega)
  rw [show edge 127 = Ideal.ofBits .f32 0x3F800000#32 from by unfold edge; exact congrArg _ (by decide +kernel)] at h
  rw [h]; norm_num

/-- The kernel's two scales once its field is known. -/
theorem scales_of_field (t : EReal) (e : ℕ) (h1 : 1 ≤ e) (h2 : e ≤ 252) (he : field t = BitVec.ofNat 32 e) :
    kernelScale t = (((2 : ℝ) ^ ((e : ℤ) - 126) : ℝ) : EReal) ∧ kernelInv t = (((2 : ℝ) ^ (126 - (e : ℤ)) : ℝ) : EReal) := by
  have hadd : IntOp.addi (BitVec.ofNat 32 e) 1#32 = BitVec.ofNat 32 (e + 1) := by
    apply BitVec.eq_of_toNat_eq; simp [IntOp.addi]
  have hsub : IntOp.subi 253#32 (BitVec.ofNat 32 e) = BitVec.ofNat 32 (253 - e) := by
    apply BitVec.eq_of_toNat_eq; simp [IntOp.subi]; omega
  unfold kernelScale kernelInv
  rw [he, hadd, hsub]
  constructor
  · refine (edge_pow (e + 1) (by omega) (by omega)).trans ?_
    congr 2; push_cast; ring
  · refine (edge_pow (253 - e) (by omega) (by omega)).trans ?_
    congr 2; omega

/-- The field the kernel goes on with, once the one reached is known. -/
theorem field_corner (t : EReal) (e : ℕ) (h : e = 0 ∨ e = 255) (he : fieldReached t = BitVec.ofNat 32 e) :
    field t = BitVec.ofNat 32 126 := by
  unfold field
  rw [he]
  rcases h with rfl | rfl <;> decide +kernel

theorem field_between (t : EReal) (e : ℕ) (h1 : 1 ≤ e) (h2 : e ≤ 254) (he : fieldReached t = BitVec.ofNat 32 e) :
    field t = BitVec.ofNat 32 e := by
  have hc : ∀ j : Fin 256, j.val ≠ 0 → j.val ≠ 255 →
      IntOp.ori (IntOp.cmpi .eq (BitVec.ofNat 32 j.val) 0#32) (IntOp.cmpi .eq (BitVec.ofNat 32 j.val) 255#32) = 0#1 := by
    decide +kernel
  unfold field
  rw [he, hc ⟨e, by omega⟩ (by show e ≠ 0; omega) (by show e ≠ 255; omega)]
  rfl

/-- The reference's two scales where its exponent is zero. -/
theorem ref_corner (t : EReal) (h : t < Ideal.ofBits .f32 0x00800000#32 ∨ t = ⊤) : refScale t = 1 ∧ refInv t = 1 := by
  have he : exponent t = 0 := by
    unfold exponent
    rw [infinity]
    have hc : IntOp.ori (Ideal.cmp .olt t (Ideal.ofBits .f32 0x00800000#32)) (Ideal.cmp .oeq t ⊤) = 1#1 := by
      have hor : ∀ a b : Bool, a = true ∨ b = true → IntOp.ori (BitVec.ofBool a) (BitVec.ofBool b) = 1#1 := by decide +kernel
      exact hor _ _ (h.imp decide_eq_true decide_eq_true)
    rw [hc]
    exact Ideal.ofBits_zero_f32
  unfold refScale refInv
  rw [he, Ideal.ofBits_zero_f32, sub_zero]
  have : Ideal.exp2 (0 : EReal) = 1 := by
    rw [← EReal.coe_zero, Ideal.exp2_coe]
    simp
  exact ⟨this, this⟩

/-- The floor of the binary logarithm. -/
def floorLog (r : ℝ) : ℤ := ⌊Real.log r * (1 / Real.log 2)⌋

/-- A positive number lies between two to the floor of its binary logarithm and twice that. -/
theorem floorLog_bounds (r : ℝ) (hr : 0 < r) : (2 : ℝ) ^ floorLog r ≤ r ∧ r < (2 : ℝ) ^ (floorLog r + 1) := by
  have h2 : 0 < Real.log 2 := Real.log_pos (by norm_num)
  have hx : Real.log r * (1 / Real.log 2) * Real.log 2 = Real.log r := by field_simp
  constructor
  · rw [← Real.log_le_log_iff (by positivity) hr, Real.log_zpow, ← hx]
    exact mul_le_mul_of_nonneg_right (Int.floor_le _) h2.le
  · rw [← Real.log_lt_log_iff hr (by positivity), Real.log_zpow, ← hx]
    refine mul_lt_mul_of_pos_right ?_ h2
    push_cast
    exact Int.lt_floor_add_one _

/-- The reference's two scales at a normal threshold. -/
theorem ref_between (r : ℝ) (h : (2 : ℝ) ^ (-126 : ℤ) ≤ r) :
    refScale (r : EReal) = (((2 : ℝ) ^ (floorLog r + 1) : ℝ) : EReal)
    ∧ refInv (r : EReal) = (((2 : ℝ) ^ (-(floorLog r + 1)) : ℝ) : EReal) := by
  have hr : 0 < r := lt_of_lt_of_le (by positivity) h
  have he : exponent (r : EReal) = (((floorLog r + 1 : ℤ) : ℝ) : EReal) := by
    unfold exponent
    rw [infinity, smallest_normal, two, one]
    have hlt : ¬ ((r : EReal) < (((2 : ℝ) ^ (-126 : ℤ) : ℝ) : EReal)) := by
      rw [EReal.coe_lt_coe_iff]; exact not_lt.mpr h
    have hc : IntOp.ori (Ideal.cmp .olt (r : EReal) (((2 : ℝ) ^ (-126 : ℤ) : ℝ) : EReal)) (Ideal.cmp .oeq (r : EReal) ⊤) = 0#1 := by
      simp only [Ideal.cmp, hlt, EReal.coe_ne_top, decide_false]
      rfl
    rw [hc]
    show Ideal.liftRound Int.floor _ + _ = _
    rw [Ideal.log_coe, if_neg (not_le.mpr hr), Ideal.log_coe, if_neg (by norm_num),
      Ideal.div_coe (Real.log_pos (by norm_num)).ne', ← EReal.coe_mul, Ideal.liftRound_coe, ← EReal.coe_add]
    congr 1
    push_cast; rfl
  unfold refScale refInv
  rw [he, Ideal.ofBits_zero_f32, zero_sub, ← EReal.coe_neg, Ideal.exp2_coe, Ideal.exp2_coe]
  constructor
  · exact congrArg _ (Real.rpow_intCast 2 _)
  · rw [← Int.cast_neg]; exact congrArg _ (Real.rpow_intCast 2 _)

/-- **The kernel's scales are the reference's.** -/
theorem scales_agree (t : EReal) (h0 : 0 ≤ t) (h : t < (((2 : ℝ) ^ (126 : ℤ) : ℝ) : EReal) ∨ t = ⊤) :
    kernelScale t = refScale t ∧ kernelInv t = refInv t := by
  have h126 : (((2 : ℝ) ^ (((126 : ℕ) : ℤ) - 126) : ℝ) : EReal) = 1 ∧ (((2 : ℝ) ^ (126 - ((126 : ℕ) : ℤ)) : ℝ) : EReal) = 1 := by
    norm_num
  by_cases hs : t < Ideal.ofBits .f32 0x00800000#32
  · -- below the smallest normal number only the field 0 is reached
    obtain ⟨r1, r2⟩ := ref_corner t (Or.inl hs)
    have hf : fieldReached t = BitVec.ofNat 32 0 := by
      refine fieldReached_eq t 0 (by rw [show ((0 : Fin 256).val) = 0 from rfl, edge_zero]; exact h0) fun j hj => ?_
      by_contra hne
      have hlt := lt_of_le_of_lt hj hs
      rw [smallest_normal] at hlt
      rcases Nat.lt_or_ge j.val 255 with h255 | h255
      · rw [edge_pow j.val (by show 1 ≤ j.val; exact Nat.one_le_iff_ne_zero.mpr (fun h => hne (by rw [h]; exact Nat.zero_le _)))
          (by omega), EReal.coe_lt_coe_iff] at hlt
        have := (zpow_lt_zpow_iff_right₀ (by norm_num : (1 : ℝ) < 2)).mp hlt
        have : j.val ≠ 0 := fun h => hne (by rw [h]; exact Nat.zero_le _)
        omega
      · rw [show j.val = 255 by omega, edge_top] at hlt
        exact absurd hlt not_top_lt
    obtain ⟨k1, k2⟩ := scales_of_field t 126 (by omega) (by omega) (field_corner t 0 (Or.inl rfl) hf)
    rw [k1, k2, r1, r2]; exact h126
  rcases h with h | rfl
  · -- a normal threshold
    obtain ⟨r, rfl⟩ : ∃ r : ℝ, t = (r : EReal) := by
      induction t with
      | bot => simp at h0
      | top => simp at h
      | coe r => exact ⟨r, rfl⟩
    rw [EReal.coe_lt_coe_iff] at h
    rw [smallest_normal, EReal.coe_lt_coe_iff, not_lt] at hs
    have hr : 0 < r := lt_of_lt_of_le (by positivity) hs
    obtain ⟨hlo, hhi⟩ := floorLog_bounds r hr
    have hk1 : -126 < floorLog r + 1 := (zpow_lt_zpow_iff_right₀ (by norm_num : (1 : ℝ) < 2)).mp (lt_of_le_of_lt hs hhi)
    have hk2 : floorLog r < 126 := (zpow_lt_zpow_iff_right₀ (by norm_num : (1 : ℝ) < 2)).mp (lt_of_le_of_lt hlo h)
    obtain ⟨r1, r2⟩ := ref_between r hs
    obtain ⟨e, he⟩ : ∃ e : ℕ, (e : ℤ) = floorLog r + 127 := ⟨(floorLog r + 127).toNat, by omega⟩
    have hf : fieldReached (r : EReal) = BitVec.ofNat 32 e := by
      refine fieldReached_eq _ ⟨e, by omega⟩ ?_ fun j hj => ?_
      · show edge e ≤ _
        rw [edge_pow e (by omega) (by omega), EReal.coe_le_coe_iff, he]
        simpa using hlo
      · show j.val ≤ e
        by_contra hne
        rcases Nat.lt_or_ge j.val 255 with h255 | h255
        · rw [edge_pow j.val (by omega) (by omega), EReal.coe_le_coe_iff] at hj
          have := (zpow_lt_zpow_iff_right₀ (by norm_num : (1 : ℝ) < 2)).mp (lt_of_le_of_lt hj hhi)
          omega
        · rw [show j.val = 255 by omega, edge_top] at hj
          exact absurd hj (by simp)
    obtain ⟨k1, k2⟩ := scales_of_field _ e (by omega) (by omega) (field_between _ e (by omega) (by omega) hf)
    rw [k1, k2, r1, r2, he]
    constructor
    · congr 2; ring
    · congr 2; ring
  · -- an infinite threshold
    obtain ⟨r1, r2⟩ := ref_corner ⊤ (Or.inr rfl)
    have hf : fieldReached ⊤ = BitVec.ofNat 32 255 := fieldReached_eq ⊤ 255 le_top fun j _ => by
      have := j.isLt
      show j.val ≤ 255
      omega
    obtain ⟨k1, k2⟩ := scales_of_field ⊤ 126 (by omega) (by omega) (field_corner ⊤ 255 (Or.inr rfl) hf)
    rw [k1, k2, r1, r2]; exact h126

/-- The constant nearest to 1/448 is positive and below 1/256. -/
theorem third_bounds : ∃ c : ℝ, Ideal.ofBits .f32 0x3B124925#32 = (c : EReal) ∧ 0 < c ∧ c < 1 / 256 := by
  refine ⟨9586981 * (2 : ℝ) ^ (-32 : ℤ), ?_, by norm_num, by norm_num⟩
  simp [Ideal.ofBits, Ideal.ieee]

/-- The largest finite bfloat16. -/
theorem bf16_max : Ideal.ofBits .bf16 0x7F7F#16 = ((255 * (2 : ℝ) ^ (120 : ℤ) : ℝ) : EReal) := by
  simp [Ideal.ofBits, Ideal.ieee]

/-- A row of bfloat16 values has a nonnegative threshold that is below 2^126 or infinite. -/
theorem threshold_bounds (x : Fin 128 → EReal)
    (h : ∀ j, max (x j) (-x j) ≤ Ideal.ofBits .bf16 0x7F7F#16 ∨ max (x j) (-x j) = ⊤) :
    0 ≤ threshold x ∧ (threshold x < (((2 : ℝ) ^ (126 : ℤ) : ℝ) : EReal) ∨ threshold x = ⊤) := by
  obtain ⟨c, hc, h0, h1⟩ := third_bounds
  have hc0 : (0 : EReal) ≤ (c : EReal) := by exact_mod_cast h0.le
  have habs : ∀ a : EReal, 0 ≤ max a (-a) := fun a => by
    rcases le_total 0 a with ha | ha
    · exact le_max_of_le_left ha
    · exact le_max_of_le_right (by simpa using ha)
  unfold threshold
  rw [hc]
  constructor
  · refine mul_nonneg (Finset.le_fold_max 0 |>.mpr (Or.inr ⟨0, Finset.mem_univ _, habs _⟩)) hc0
  · by_cases ht : ∃ j, max (x j) (-x j) = ⊤
    · obtain ⟨j, hj⟩ := ht
      right
      rw [fold_max_eq (fun j => max (x j) (-x j)) j (fun i => by rw [hj]; exact le_top), hj]
      exact EReal.top_mul_coe_of_pos h0
    · left
      have hle : (Finset.univ : Finset (Fin 128)).fold max ⊥ (fun j => max (x j) (-x j)) ≤ Ideal.ofBits .bf16 0x7F7F#16 :=
        Finset.fold_max_le _ |>.mpr ⟨bot_le, fun j _ => (h j).resolve_right fun hj => ht ⟨j, hj⟩⟩
      refine lt_of_le_of_lt (mul_le_mul_of_nonneg_right hle hc0) ?_
      rw [bf16_max, ← EReal.coe_mul, EReal.coe_lt_coe_iff]
      nlinarith

end Cert.KernelIdeal.Hand

end
-- ==== Proof.Equation.lean ====
/- On a matrix of values that bfloat16 can hold, the kernel's scales, codes and product are the reference's. -/
module

public import proofs.«01_k».proof.Proof.Exponent

@[expose] public section

noncomputable section

namespace Cert.Quant

open Cert.KernelIdeal.Hand Idealize.ShloMosaic Idealize.ShloMosaic.ValueIdx

variable {m n : ℕ}

/-- Every magnitude is at most the greatest finite bfloat16 number, or infinite. -/
def InRange (x : Mat m 8192) : Prop :=
  ∀ y, max (x y) (-x y) ≤ Ideal.ofBits .bf16 0x7F7F#16 ∨ max (x y) (-x y) = ⊤

/-- At every threshold of such a matrix the two scales agree, and so do the two inverse scales. -/
theorem agree_at {x : Mat m 8192} (h : InRange x) (r : Fin m) (g : Fin 64) :
    kernelScale (rowThreshold x r g) = refScale (rowThreshold x r g) ∧ kernelInv (rowThreshold x r g) = refInv (rowThreshold x r g) := by
  have hb := threshold_bounds (fun j => x (ix2 r (column g j))) fun j => h (ix2 r (column g j))
  exact scales_agree _ hb.1 hb.2

/-- The scales agree. -/
theorem scales_eq {x : Mat m 8192} (h : InRange x) : scales kernelScale x = scales refScale x := by
  funext y
  exact (agree_at h (y 0) (y 1)).1

/-- The codes agree. -/
theorem codes_eq {x : Mat m 8192} (h : InRange x) : codes kernelInv x = codes refInv x := by
  funext y
  exact congrArg (code (x y)) (agree_at h (y 0) (group (y 1))).2

/-- The scaled codes agree. -/
theorem scaled_eq {x : Mat m 8192} (h : InRange x) : scaled kernelScale kernelInv x = scaled refScale refInv x := by
  funext y
  exact congrArg₂ (· * ·) (congrFun (codes_eq h) y) (agree_at h (y 0) (group (y 1))).1

/-- The products agree. -/
theorem product_eq {x : Mat m 8192} (h : InRange x) (ww : Mat n 8192) :
    product kernelScale kernelInv x ww = product refScale refInv x ww := by
  unfold product
  rw [scaled_eq h]

end Cert.Quant

end
-- ==== Proof.Algebraic.lean ====
/- The equality of the two programs' results: both runs end with the same three arrays, for every dy of values that
   bfloat16 can hold. -/
module

public import proofs.«01_k».proof.Defs
public import proofs.«01_k».proof.Proof.Arrays
public import proofs.«01_k».proof.Proof.ReferenceArrays
public import proofs.«01_k».proof.Proof.Equation

@[expose] public section

noncomputable section

namespace Cert.Hand

open Idealize.ShloMosaic Idealize.ShloMosaic.TcCoe Idealize.SL.Sem Cert.Quant

/-- The shape facts of the precondition. -/
theorem preFacts : Cert.Pre_dy_is_bf16.Facts where
  bcast_S_S8x3072x8192 := by decide

section Kernel

open Cert.KernelIdeal Cert.KernelIdeal.Gen

/-- The kernel's grid finds dy viewed as 24576 rows. -/
theorem kernel_dy (m : (ℓ : Loc nD τ sig) → Buf (Elt Ideal) ℓ) (c : Dev nD) :
    V m c main_v0 = shapeCast S24576x8192 (m ((c : Thread nD τ).loc main_arg0)) shapeCasts_S8x3072x8192_S24576x8192 := by
  unfold V hostOps0
  rw [StableHlo.after_cons, StableHlo.after_nil]
  refine (StableHlo.reshape_result ..).trans ?_
  rfl

end Kernel

section Reference

open Cert.ReferenceIdeal Cert.ReferenceIdeal.Gen

/-- The reference's grid finds dy viewed as 24576 rows. -/
theorem reference_dy (m : (ℓ : Loc nD τ sig) → Buf (Elt Ideal) ℓ) (c : Dev nD) :
    V m c main_v0 = shapeCast S24576x8192 (m ((c : Thread nD τ).loc main_arg0)) shapeCasts_S8x3072x8192_S24576x8192 := by
  unfold V hostOps0
  rw [StableHlo.after_cons, StableHlo.after_nil]
  refine (StableHlo.reshape_result ..).trans ?_
  rfl

end Reference

/-- The bfloat16 infinity denotes the infinite extended real. -/
theorem bf16_infinity : Ideal.ofBits .bf16 0x7F80#16 = ⊤ := by
  simp [Ideal.ofBits, Ideal.ieee]

/-- What the precondition says of each element of dy. -/
theorem pre_apply [Cert.Pre_dy_is_bf16.Facts] (a : FVec Ideal Cert.Pre_dy_is_bf16.S8x3072x8192 .bf16) (b s)
    (h : Cert.Pre_dy_is_bf16.fn (F := Ideal) a b s = fun _ => 1#1) (z : Cert.Pre_dy_is_bf16.S8x3072x8192.Idx) :
    max (a z) (-a z) ≤ Ideal.ofBits .bf16 0x7F7F#16 ∨ max (a z) (-a z) = ⊤ := by
  have hz : IntOp.ori (Ideal.cmp .ole (max (a z) (-a z)) (Ideal.ofBits .bf16 0x7F7F#16))
      (Ideal.cmp .oeq (max (a z) (-a z)) (Ideal.ofBits .bf16 0x7F80#16)) = 1#1 := congrFun h z
  rw [bf16_infinity] at hz
  by_contra hn
  rw [not_or] at hn
  simp [Ideal.cmp, IntOp.ori, hn.1, hn.2] at hz

/-- So the rows of dy are in range. -/
theorem rows_inRange [Cert.Pre_dy_is_bf16.Facts] (a : FVec Ideal Cert.Pre_dy_is_bf16.S8x3072x8192 .bf16) (b s)
    (h : Cert.Pre_dy_is_bf16.fn (F := Ideal) a b s = fun _ => 1#1)
    (hc : Cert.Pre_dy_is_bf16.S8x3072x8192.ShapeCasts ⟨2, ![24576, 8192]⟩) :
    InRange (shapeCast ⟨2, ![24576, 8192]⟩ a hc : Mat 24576 8192) := fun y =>
  pre_apply a b s h (Shape.reshapeEquiv hc y)

/-- The two programs end with equal results. -/
theorem algebraic : @Cert.algebraic_KernelIdeal_ReferenceIdeal_pre_dy_is_bf16 Cert.KernelIdeal.Gen.facts Cert.ReferenceIdeal.Gen.facts preFacts := by
  intro m g m' g' hpre hagree
  have hdy : ∀ c, (Cert.ReferenceIdeal.Hand.dyRows m' c : Mat 24576 8192) = Cert.KernelIdeal.Hand.dyRows m c := fun c => by
    refine (reference_dy m' c).trans (Eq.trans ?_ (kernel_dy m c).symm)
    exact congrArg (fun a => shapeCast _ a _) (hagree c).1
  have hw : ∀ c, (Cert.ReferenceIdeal.Hand.wideWeight m' c : Mat 2048 8192) = Cert.KernelIdeal.Hand.wideWeight m c := fun c => by
    refine congrArg₂ weight ?_ ?_
    · exact (Cert.ReferenceIdeal.Gen.V_main_arg1 m' c).trans ((hagree c).2.1.trans (Cert.KernelIdeal.Gen.V_main_arg1 m c).symm)
    · exact (Cert.ReferenceIdeal.Gen.V_main_arg2 m' c).trans ((hagree c).2.2.trans (Cert.KernelIdeal.Gen.V_main_arg2 m c).symm)
  have hr : ∀ c, InRange (Cert.KernelIdeal.Hand.dyRows m c) := fun c => by
    rw [Cert.KernelIdeal.Hand.dyRows, kernel_dy]
    exact @rows_inRange preFacts _ _ _ (hpre c) _
  refine ⟨fun c => (Cert.KernelIdeal.Gen.dats m 0 c).arrAt 2 Cert.KernelIdeal.cfg0.N, fun c => (Cert.KernelIdeal.Gen.dats m 0 c).arrAt 3 Cert.KernelIdeal.cfg0.N,
    fun c => (Cert.KernelIdeal.Gen.dats m 0 c).arrAt 4 Cert.KernelIdeal.cfg0.N, Cert.KernelIdeal.Value.run_blocks m g, ?_⟩
  refine (θ_run _ _ _).mono (fun r h c => ?_) (Cert.ReferenceIdeal.Value.run_blocks m' g')
  obtain ⟨h0, h1, h2, ha⟩ := h c
  refine ⟨h0.trans ?_, h1.trans ?_, h2.trans ?_, ha⟩
  · refine (Cert.ReferenceIdeal.Hand.product_final m' c).trans (Eq.trans ?_ (Cert.KernelIdeal.Hand.product_final m c).symm)
    rw [hdy, hw]
    exact (product_eq (hr c) _).symm
  · refine (Cert.ReferenceIdeal.Hand.codes_final m' c).trans (Eq.trans ?_ (Cert.KernelIdeal.Hand.codes_final m c).symm)
    rw [hdy]
    exact (codes_eq (hr c)).symm
  · refine (Cert.ReferenceIdeal.Hand.scales_final m' c).trans (Eq.trans ?_ (Cert.KernelIdeal.Hand.scales_final m c).symm)
    rw [hdy]
    exact (scales_eq (hr c)).symm

end Cert.Hand

end
-- ==== Proof.lean ====
module

public import proofs.«01_k».proof.Proof.Gen.ReferenceIdeal.Value
public import proofs.«01_k».proof.Proof.Gen.KernelIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The claims of Defs.lean together: the frames, generated; the idealization, which rewrote nothing; the equality of the
    results (Proof/Algebraic.lean). -/
theorem claim : Cert.Claim :=
  ⟨Cert.Kernel.Gen.facts, Cert.KernelIdeal.Gen.facts, Cert.ReferenceIdeal.Gen.facts, Cert.Hand.preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    trivial, Cert.Hand.algebraic⟩

end Cert.Proof

end
